-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x101 : Shape := ⟨2, ![100000, 101]⟩
abbrev S101x128 : Shape := ⟨2, ![101, 128]⟩
abbrev S101x100000 : Shape := ⟨2, ![101, 100000]⟩
abbrev S101x32 : Shape := ⟨2, ![101, 32]⟩
abbrev S100000x128 : Shape := ⟨2, ![100000, 128]⟩
abbrev S6x101x8192 : Shape := ⟨3, ![6, 101, 8192]⟩
abbrev S6x8192x128 : Shape := ⟨3, ![6, 8192, 128]⟩
abbrev S101x1664 : Shape := ⟨2, ![101, 1664]⟩
abbrev S1696x128 : Shape := ⟨2, ![1696, 128]⟩
abbrev S6 : Shape := ⟨1, ![6]⟩
abbrev S2 : Shape := ⟨1, ![2]⟩
abbrev S1 : Shape := ⟨1, ![1]⟩
abbrev S_ : Shape := ⟨0, ![]⟩
abbrev S1x101x8192 : Shape := ⟨3, ![1, 101, 8192]⟩
abbrev S101x8192 : Shape := ⟨2, ![101, 8192]⟩
abbrev S8192x128 : Shape := ⟨2, ![8192, 128]⟩
abbrev S1x8192x128 : Shape := ⟨3, ![1, 8192, 128]⟩
abbrev S1664x128 : Shape := ⟨2, ![1664, 128]⟩
abbrev S32x128 : Shape := ⟨2, ![32, 128]⟩

abbrev nBuf : Space → Nat
  | .hbm => 5
  | .vmem => 6
  | .smem => 0
  | _ => 0

abbrev bufTy : (tb : Table) → Fin (tcTables nBuf tb) → BufTy
  | .hbm, ⟨0, _⟩ => ⟨S100000x101, .f32⟩
  | .hbm, ⟨1, _⟩ => ⟨S101x128, .f32⟩
  | .hbm, ⟨2, _⟩ => ⟨S101x100000, .f32⟩
  | .hbm, ⟨3, _⟩ => ⟨S101x32, .f32⟩
  | .hbm, ⟨4, _⟩ => ⟨S100000x128, .f32⟩
  | .local _ .vmem, ⟨0, _⟩ => ⟨S101x32, .f32⟩
  | .local _ .vmem, ⟨1, _⟩ => ⟨S101x128, .f32⟩
  | .local _ .vmem, ⟨2, _⟩ => ⟨S6x101x8192, .f32⟩
  | .local _ .vmem, ⟨3, _⟩ => ⟨S6x8192x128, .f32⟩
  | .local _ .vmem, ⟨4, _⟩ => ⟨S101x1664, .f32⟩
  | .local _ .vmem, ⟨5, _⟩ => ⟨S1696x128, .f32⟩
  | _, _ => ⟨S100000x101, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_28 : BitVec 32 := 0#32
  let c12_i32 : BitVec 32 := 12#32
  let v34 : BitVec 32 := Scalar.addi c0_i32_28 c12_i32
  let c1_i32_29 : BitVec 32 := 1#32
  ⟨c0_i32_28, v34, c1_i32_29⟩
def k0_off1 (k0_t1 : Fin k0_t1_loop.trips) : Fin 1 → Nat :=
  let c0_i32_28 : BitVec 32 := 0#32
  let c1_i32_29 : BitVec 32 := 1#32
  let arg11 : BitVec 32 := Scf.iv c0_i32_28 c1_i32_29 k0_t1
  let c6_i32 : BitVec 32 := 6#32
  let v85 : BitVec 32 := Scalar.remsi arg11 c6_i32
  ![v85.toNat]
def k0_off2 (k0_t1 : Fin k0_t1_loop.trips) : Fin 3 → Nat :=
  let c0_i32_28 : BitVec 32 := 0#32
  let c1_i32_29 : BitVec 32 := 1#32
  let arg11 : BitVec 32 := Scf.iv c0_i32_28 c1_i32_29 k0_t1
  let c6_i32 : BitVec 32 := 6#32
  let v85 : BitVec 32 := Scalar.remsi arg11 c6_i32
  let c0_i32_79 : BitVec 32 := 0#32
  let c0_i32_80 : BitVec 32 := 0#32
  ![v85.toNat, 0, 0]
def k0_off3 (k0_t1 : Fin k0_t1_loop.trips) : Fin 2 → Nat :=
  let c0_i32_81 : BitVec 32 := 0#32
  let c0_i32_28 : BitVec 32 := 0#32
  let c1_i32_29 : BitVec 32 := 1#32
  let arg11 : BitVec 32 := Scf.iv c0_i32_28 c1_i32_29 k0_t1
  let c8192_i32_78 : BitVec 32 := 8192#32
  let v86 : BitVec 32 := Scalar.muli arg11 c8192_i32_78
  ![0, v86.toNat]
def k0_cond1 (k0_t1 : Fin k0_t1_loop.trips) : BitVec 1 :=
  let c0_i32_28 : BitVec 32 := 0#32
  let c1_i32_29 : BitVec 32 := 1#32
  let arg11 : BitVec 32 := Scf.iv c0_i32_28 c1_i32_29 k0_t1
  let c6_i32_82 : BitVec 32 := 6#32
  let v92 : BitVec 1 := Scalar.cmpi .sge arg11 c6_i32_82
  let v93 : BitVec 32 := Scalar.extui v92
  let c0_i32_83 : BitVec 32 := 0#32
  let v94 : BitVec 1 := Scalar.cmpi .ne v93 c0_i32_83
  v94

def k0_off4 (k0_t1 : Fin k0_t1_loop.trips) : Fin 1 → Nat :=
  let c0_i32_28 : BitVec 32 := 0#32
  let c1_i32_29 : BitVec 32 := 1#32
  let arg11 : BitVec 32 := Scf.iv c0_i32_28 c1_i32_29 k0_t1
  let c6_i32 : BitVec 32 := 6#32
  let v85 : BitVec 32 := Scalar.remsi arg11 c6_i32
  ![v85.toNat]
def k0_off5 (k0_t1 : Fin k0_t1_loop.trips) : Fin 2 → Nat :=
  let c0_i32_28 : BitVec 32 := 0#32
  let c1_i32_29 : BitVec 32 := 1#32
  let arg11 : BitVec 32 := Scf.iv c0_i32_28 c1_i32_29 k0_t1
  let c6_i32_96 : BitVec 32 := 6#32
  let v113 : BitVec 32 := Scalar.subi arg11 c6_i32_96
  let c8192_i32_97 : BitVec 32 := 8192#32
  let v114 : BitVec 32 := Scalar.muli v113 c8192_i32_97
  let c0_i32_98 : BitVec 32 := 0#32
  ![v114.toNat, 0]
def k0_off6 (k0_t1 : Fin k0_t1_loop.trips) : Fin 3 → Nat :=
  let c0_i32_28 : BitVec 32 := 0#32
  let c1_i32_29 : BitVec 32 := 1#32
  let arg11 : BitVec 32 := Scf.iv c0_i32_28 c1_i32_29 k0_t1
  let c6_i32 : BitVec 32 := 6#32
  let v85 : BitVec 32 := Scalar.remsi arg11 c6_i32
  let c0_i32_99 : BitVec 32 := 0#32
  let c0_i32_100 : BitVec 32 := 0#32
  ![v85.toNat, 0, 0]
def k0_off7 (k0_t1 : Fin k0_t1_loop.trips) : Fin 3 → Nat :=
  let c0_i32_28 : BitVec 32 := 0#32
  let c1_i32_29 : BitVec 32 := 1#32
  let arg11 : BitVec 32 := Scf.iv c0_i32_28 c1_i32_29 k0_t1
  let c6_i32 : BitVec 32 := 6#32
  let v85 : BitVec 32 := Scalar.remsi arg11 c6_i32
  let v95 : Index := Scalar.indexCast v85
  let c0_84 : Index := 0#32
  let c0_85 : Index := 0#32
  ![v95.toNat, 0, 0]
def k0_off8 (k0_t1 : Fin k0_t1_loop.trips) : Fin 3 → Nat :=
  let c0_i32_28 : BitVec 32 := 0#32
  let c1_i32_29 : BitVec 32 := 1#32
  let arg11 : BitVec 32 := Scf.iv c0_i32_28 c1_i32_29 k0_t1
  let c6_i32 : BitVec 32 := 6#32
  let v85 : BitVec 32 := Scalar.remsi arg11 c6_i32
  let v99 : Index := Scalar.indexCast v85
  let c0_87 : Index := 0#32
  let c0_88 : Index := 0#32
  ![v99.toNat, 0, 0]
def k0_off9 (k0_t1 : Fin k0_t1_loop.trips) : Fin 2 → Nat :=
  let c0_i32_28 : BitVec 32 := 0#32
  let c1_i32_29 : BitVec 32 := 1#32
  let arg11 : BitVec 32 := Scf.iv c0_i32_28 c1_i32_29 k0_t1
  let c8192_i32_89 : BitVec 32 := 8192#32
  let v103 : BitVec 32 := Scalar.muli arg11 c8192_i32_89
  let c0_i32_90 : BitVec 32 := 0#32
  ![v103.toNat, 0]
def k0_off10 (k0_t1 : Fin k0_t1_loop.trips) : Fin 3 → Nat :=
  let c0_i32_28 : BitVec 32 := 0#32
  let c1_i32_29 : BitVec 32 := 1#32
  let arg11 : BitVec 32 := Scf.iv c0_i32_28 c1_i32_29 k0_t1
  let c6_i32 : BitVec 32 := 6#32
  let v85 : BitVec 32 := Scalar.remsi arg11 c6_i32
  let c0_i32_91 : BitVec 32 := 0#32
  let c0_i32_92 : BitVec 32 := 0#32
  ![v85.toNat, 0, 0]
def k0_cond2 (k0_t1 : Fin k0_t1_loop.trips) : BitVec 1 :=
  let c0_i32_28 : BitVec 32 := 0#32
  let c1_i32_29 : BitVec 32 := 1#32
  let arg11 : BitVec 32 := Scf.iv c0_i32_28 c1_i32_29 k0_t1
  let c6_i32_93 : BitVec 32 := 6#32
  let v109 : BitVec 32 := Scalar.addi arg11 c6_i32_93
  let c12_i32_94 : BitVec 32 := 12#32
  let v110 : BitVec 1 := Scalar.cmpi .slt v109 c12_i32_94
  let v111 : BitVec 32 := Scalar.extui v110
  let c0_i32_95 : BitVec 32 := 0#32
  let v112 : BitVec 1 := Scalar.cmpi .ne v111 c0_i32_95
  v112

def k0_off11 (k0_t1 : Fin k0_t1_loop.trips) : Fin 1 → Nat :=
  let c0_i32_28 : BitVec 32 := 0#32
  let c1_i32_29 : BitVec 32 := 1#32
  let arg11 : BitVec 32 := Scf.iv c0_i32_28 c1_i32_29 k0_t1
  let c6_i32 : BitVec 32 := 6#32
  let v85 : BitVec 32 := Scalar.remsi arg11 c6_i32
  ![v85.toNat]
def k0_off12 (k0_t1 : Fin k0_t1_loop.trips) : Fin 3 → Nat :=
  let c0_i32_28 : BitVec 32 := 0#32
  let c1_i32_29 : BitVec 32 := 1#32
  let arg11 : BitVec 32 := Scf.iv c0_i32_28 c1_i32_29 k0_t1
  let c6_i32 : BitVec 32 := 6#32
  let v85 : BitVec 32 := Scalar.remsi arg11 c6_i32
  let c0_i32_98 : BitVec 32 := 0#32
  let c0_i32_99 : BitVec 32 := 0#32
  ![v85.toNat, 0, 0]
def k0_off13 (k0_t1 : Fin k0_t1_loop.trips) : Fin 2 → Nat :=
  let c0_i32_100 : BitVec 32 := 0#32
  let c0_i32_28 : BitVec 32 := 0#32
  let c1_i32_29 : BitVec 32 := 1#32
  let arg11 : BitVec 32 := Scf.iv c0_i32_28 c1_i32_29 k0_t1
  let c6_i32_96 : BitVec 32 := 6#32
  let v113 : BitVec 32 := Scalar.addi arg11 c6_i32_96
  let c8192_i32_97 : BitVec 32 := 8192#32
  let v114 : BitVec 32 := Scalar.muli v113 c8192_i32_97
  ![0, v114.toNat]
abbrev stage0_0 : Fin 1 → Memref sig .tc .vmem S101x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S101x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S100000x101 : Shape := ⟨2, ![100000, 101]⟩
abbrev S101x128 : Shape := ⟨2, ![101, 128]⟩
abbrev S100000x128 : Shape := ⟨2, ![100000, 128]⟩

abbrev nBuf : Space → Nat
  | .hbm => 3
  | .vmem => 0
  | .smem => 0
  | _ => 0

abbrev bufTy : (tb : Table) → Fin (tcTables nBuf tb) → BufTy
  | .hbm, ⟨0, _⟩ => ⟨S100000x101, .f32⟩
  | .hbm, ⟨1, _⟩ => ⟨S101x128, .f32⟩
  | .hbm, ⟨2, _⟩ => ⟨S100000x128, .f32⟩
  | _, _ => ⟨S100000x101, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Names.lean ====
/-
  The windows, cells and resources of the copy-and-multiply ring, named by slot (six) and by block (twelve).
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Routed

@[expose] public section

set_option maxRecDepth 16384

noncomputable section

namespace Cert.KernelIdeal.Gemm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- The transposed input and the result, in HBM; the ring of input blocks and the ring of output blocks, in VMEM. -/
abbrev xM : Memref sig .tc .hbm S101x100000 .f32 := Memref.whole main_call0_v0
abbrev oM : Memref sig .tc .hbm S100000x128 .f32 := Memref.whole main_v0
abbrev xbM : Memref sig .tc .vmem S6x101x8192 .f32 := Memref.whole cc0_scratch0
abbrev obM : Memref sig .tc .vmem S6x8192x128 .f32 := Memref.whole cc0_scratch1

theorem inbXs (s : Fin 6) : ∀ a, (![s.val, 0, 0] : Fin 3 → Nat) a + S1x101x8192.size a ≤ S6x101x8192.size a := by
  have := s.isLt; intro a; fin_cases a
  · show s.val + 1 ≤ 6; omega
  · show 0 + 101 ≤ 101; omega
  · show 0 + 8192 ≤ 8192; omega
theorem inbOs (s : Fin 6) : ∀ a, (![s.val, 0, 0] : Fin 3 → Nat) a + S1x8192x128.size a ≤ S6x8192x128.size a := by
  have := s.isLt; intro a; fin_cases a
  · show s.val + 1 ≤ 6; omega
  · show 0 + 8192 ≤ 8192; omega
  · show 0 + 128 ≤ 128; omega
theorem inbX (b : Fin 12) : ∀ a, (![0, 8192 * b.val] : Fin 2 → Nat) a + S101x8192.size a ≤ S101x100000.size a := by
  have := b.isLt; intro a; fin_cases a
  · show 0 + 101 ≤ 101; omega
  · show 8192 * b.val + 8192 ≤ 100000; omega
theorem inbO (b : Fin 12) : ∀ a, (![8192 * b.val, 0] : Fin 2 → Nat) a + S8192x128.size a ≤ S100000x128.size a := by
  have := b.isLt; intro a; fin_cases a
  · show 8192 * b.val + 8192 ≤ 100000; omega
  · show 0 + 128 ≤ 128; omega
theorem inbC (s : Fin 6) : ∀ a, (![s.val] : Fin 1 → Nat) a + S1.size a ≤ S6.size a := by
  have := s.isLt; intro a; fin_cases a; show s.val + 1 ≤ 6; omega

/-- Slot `s` of each ring, as a transfer names it. -/
def xS (s : Fin 6) : Memref sig .tc .vmem S101x8192 .f32 :=
  (xbM.slice (Rect.unit (s := S6x101x8192) ![s.val, 0, 0] S1x101x8192.size (inbXs s)) (fun _ => rfl)).squeeze S101x8192 squeezes_S1x101x8192_S101x8192
def oS (s : Fin 6) : Memref sig .tc .vmem S8192x128 .f32 :=
  (obM.slice (Rect.unit (s := S6x8192x128) ![s.val, 0, 0] S1x8192x128.size (inbOs s)) (fun _ => rfl)).squeeze S8192x128 squeezes_S1x8192x128_S8192x128
/-- Block `b` of the transposed input (8192 columns) and of the result (8192 rows). -/
def xB (b : Fin 12) : Memref sig .tc .hbm S101x8192 .f32 :=
  xM.slice (Rect.unit (s := S101x100000) ![0, 8192 * b.val] S101x8192.size (inbX b)) (fun _ => rfl)
def oB (b : Fin 12) : Memref sig .tc .hbm S8192x128 .f32 :=
  oM.slice (Rect.unit (s := S100000x128) ![8192 * b.val, 0] S8192x128.size (inbO b)) (fun _ => rfl)
/-- Slot `s`'s cell for its copies in, and for its copies out. -/
def smI (s : Fin 6) : DmaSems sig S_ := (cc0_scratch4.slice (Rect.unit (s := S6) ![s.val] S1.size (inbC s))).squeeze S_ squeezes_S1_S_
def smO (s : Fin 6) : DmaSems sig S_ := (cc0_scratch5.slice (Rect.unit (s := S6) ![s.val] S1.size (inbC s))).squeeze S_ squeezes_S1_S_
abbrev cI (s : Fin 6) : DmaSem sig := (smI s).sem
abbrev cO (s : Fin 6) : DmaSem sig := (smO s).sem

/-! The program's own spellings of those slices. -/

theorem smI_congr {off : Fin 1 → Nat} {s : Fin 6} (e : off = ![s.val]) (hh) :
    (cc0_scratch4.slice (Rect.unit (s := S6) off S1.size hh)).squeeze S_ squeezes_S1_S_ = smI s := by subst e; rfl
theorem smO_congr {off : Fin 1 → Nat} {s : Fin 6} (e : off = ![s.val]) (hh) :
    (cc0_scratch5.slice (Rect.unit (s := S6) off S1.size hh)).squeeze S_ squeezes_S1_S_ = smO s := by subst e; rfl
theorem xS_congr {off : Fin 3 → Nat} {s : Fin 6} (e : off = ![s.val, 0, 0]) (hh hs) :
    (xbM.slice (Rect.unit (s := S6x101x8192) off S1x101x8192.size hh) hs).squeeze S101x8192 squeezes_S1x101x8192_S101x8192 = xS s := by subst e; rfl
theorem oS_congr {off : Fin 3 → Nat} {s : Fin 6} (e : off = ![s.val, 0, 0]) (hh hs) :
    (obM.slice (Rect.unit (s := S6x8192x128) off S1x8192x128.size hh) hs).squeeze S8192x128 squeezes_S1x8192x128_S8192x128 = oS s := by subst e; rfl
theorem xB_congr {off : Fin 2 → Nat} {b : Fin 12} (e : off = ![0, 8192 * b.val]) (hh hs) :
    xM.slice (Rect.unit (s := S101x100000) off S101x8192.size hh) hs = xB b := by subst e; rfl
theorem oB_congr {off : Fin 2 → Nat} {b : Fin 12} (e : off = ![8192 * b.val, 0]) (hh hs) :
    oM.slice (Rect.unit (s := S100000x128) off S8192x128.size hh) hs = oB b := by subst e; rfl

/-- The slot and the block of trip `k`, and the block six on. -/
theorem trips_lt (k : Fin k0_t1_loop.trips) : k.val < 12 := by
  have h : ∀ k : Fin k0_t1_loop.trips, k.val < 12 := by decide +kernel
  exact h k
abbrev sl (k : Fin k0_t1_loop.trips) : Fin 6 := ⟨k.val % 6, Nat.mod_lt _ (by decide)⟩
abbrev bk (k : Fin k0_t1_loop.trips) : Fin 12 := ⟨k.val, trips_lt k⟩
abbrev bkn (k : Fin k0_t1_loop.trips) (h : k.val < 6) : Fin 12 := ⟨k.val + 6, by omega⟩

theorem cond1_iff : ∀ k : Fin k0_t1_loop.trips, k0_cond1 k = 1#1 ↔ 6 ≤ k.val := by decide +kernel
theorem cond2_iff : ∀ k : Fin k0_t1_loop.trips, k0_cond2 k = 1#1 ↔ k.val < 6 := by decide +kernel

section Canon
variable (k : Fin k0_t1_loop.trips)
@[sl_canon] theorem smI_1 (hh) : (cc0_scratch4.slice (Rect.unit (s := S6) (k0_off1 k) S1.size hh)).squeeze S_ squeezes_S1_S_ = smI (sl k) := smI_congr (k0_off1_eq k) _
@[sl_canon] theorem smI_11 (hh) : (cc0_scratch4.slice (Rect.unit (s := S6) (k0_off11 k) S1.size hh)).squeeze S_ squeezes_S1_S_ = smI (sl k) := smI_congr (k0_off11_eq k) _
@[sl_canon] theorem smO_1 (hh) : (cc0_scratch5.slice (Rect.unit (s := S6) (k0_off1 k) S1.size hh)).squeeze S_ squeezes_S1_S_ = smO (sl k) := smO_congr (k0_off1_eq k) _
@[sl_canon] theorem smO_4 (hh) : (cc0_scratch5.slice (Rect.unit (s := S6) (k0_off4 k) S1.size hh)).squeeze S_ squeezes_S1_S_ = smO (sl k) := smO_congr (k0_off4_eq k) _
@[sl_canon] theorem xS_2 (hh hs) : (xbM.slice (Rect.unit (s := S6x101x8192) (k0_off2 k) S1x101x8192.size hh) hs).squeeze S101x8192 squeezes_S1x101x8192_S101x8192 = xS (sl k) := xS_congr (k0_off2_eq k) _ _
@[sl_canon] theorem xS_12 (hh hs) : (xbM.slice (Rect.unit (s := S6x101x8192) (k0_off12 k) S1x101x8192.size hh) hs).squeeze S101x8192 squeezes_S1x101x8192_S101x8192 = xS (sl k) := xS_congr (k0_off12_eq k) _ _
@[sl_canon] theorem oS_6 (hh hs) : (obM.slice (Rect.unit (s := S6x8192x128) (k0_off6 k) S1x8192x128.size hh) hs).squeeze S8192x128 squeezes_S1x8192x128_S8192x128 = oS (sl k) := oS_congr (k0_off6_eq k) _ _
@[sl_canon] theorem oS_10 (hh hs) : (obM.slice (Rect.unit (s := S6x8192x128) (k0_off10 k) S1x8192x128.size hh) hs).squeeze S8192x128 squeezes_S1x8192x128_S8192x128 = oS (sl k) := oS_congr (k0_off10_eq k) _ _
@[sl_canon] theorem xB_3 (hh hs) : xM.slice (Rect.unit (s := S101x100000) (k0_off3 k) S101x8192.size hh) hs = xB (bk k) := xB_congr (k0_off3_eq k) _ _
@[sl_canon] theorem xB_13 (h : k.val < 6) (hh hs) : xM.slice (Rect.unit (s := S101x100000) (k0_off13 k) S101x8192.size hh) hs = xB (bkn k h) :=
  xB_congr (by rw [k0_off13_eq]; show ![0, 8192 * k.val + 49152] = ![0, 8192 * (k.val + 6)]; rw [Nat.mul_add]) _ _
@[sl_canon] theorem oB_9 (hh hs) : oM.slice (Rect.unit (s := S100000x128) (k0_off9 k) S8192x128.size hh) hs = oB (bk k) := oB_congr (k0_off9_eq k) _ _
end Canon

/-- The two blocks a slot takes: its own number, and six on. -/
def b0 (s : Fin 6) : Fin 12 := ⟨s.val, by omega⟩
def b1 (s : Fin 6) : Fin 12 := ⟨s.val + 6, by omega⟩

@[sl_canon] theorem smI_L0 (hh) : (cc0_scratch4.slice (Rect.unit (s := S6) ![0] S1.size hh)).squeeze S_ squeezes_S1_S_ = smI 0 := smI_congr (s := 0) (by decide) _
@[sl_canon] theorem smO_L0 (hh) : (cc0_scratch5.slice (Rect.unit (s := S6) ![0] S1.size hh)).squeeze S_ squeezes_S1_S_ = smO 0 := smO_congr (s := 0) (by decide) _
@[sl_canon] theorem xS_L0 (hh hs) : (xbM.slice (Rect.unit (s := S6x101x8192) ![0, 0, 0] S1x101x8192.size hh) hs).squeeze S101x8192 squeezes_S1x101x8192_S101x8192 = xS 0 := xS_congr (s := 0) (by decide) _ _
@[sl_canon] theorem oS_L0 (hh hs) : (obM.slice (Rect.unit (s := S6x8192x128) ![0, 0, 0] S1x8192x128.size hh) hs).squeeze S8192x128 squeezes_S1x8192x128_S8192x128 = oS 0 := oS_congr (s := 0) (by decide) _ _
@[sl_canon] theorem xB_L0 (hh hs) : xM.slice (Rect.unit (s := S101x100000) ![0, 0] S101x8192.size hh) hs = xB (b0 0) := xB_congr (b := b0 0) (by decide) _ _
@[sl_canon] theorem oB_L0 (hh hs) : oM.slice (Rect.unit (s := S100000x128) ![49152, 0] S8192x128.size hh) hs = oB (b1 0) := oB_congr (b := b1 0) (by decide) _ _
@[sl_canon] theorem smI_L1 (hh) : (cc0_scratch4.slice (Rect.unit (s := S6) ![1] S1.size hh)).squeeze S_ squeezes_S1_S_ = smI 1 := smI_congr (s := 1) (by decide) _
@[sl_canon] theorem smO_L1 (hh) : (cc0_scratch5.slice (Rect.unit (s := S6) ![1] S1.size hh)).squeeze S_ squeezes_S1_S_ = smO 1 := smO_congr (s := 1) (by decide) _
@[sl_canon] theorem xS_L1 (hh hs) : (xbM.slice (Rect.unit (s := S6x101x8192) ![1, 0, 0] S1x101x8192.size hh) hs).squeeze S101x8192 squeezes_S1x101x8192_S101x8192 = xS 1 := xS_congr (s := 1) (by decide) _ _
@[sl_canon] theorem oS_L1 (hh hs) : (obM.slice (Rect.unit (s := S6x8192x128) ![1, 0, 0] S1x8192x128.size hh) hs).squeeze S8192x128 squeezes_S1x8192x128_S8192x128 = oS 1 := oS_congr (s := 1) (by decide) _ _
@[sl_canon] theorem xB_L1 (hh hs) : xM.slice (Rect.unit (s := S101x100000) ![0, 8192] S101x8192.size hh) hs = xB (b0 1) := xB_congr (b := b0 1) (by decide) _ _
@[sl_canon] theorem oB_L1 (hh hs) : oM.slice (Rect.unit (s := S100000x128) ![57344, 0] S8192x128.size hh) hs = oB (b1 1) := oB_congr (b := b1 1) (by decide) _ _
@[sl_canon] theorem smI_L2 (hh) : (cc0_scratch4.slice (Rect.unit (s := S6) ![2] S1.size hh)).squeeze S_ squeezes_S1_S_ = smI 2 := smI_congr (s := 2) (by decide) _
@[sl_canon] theorem smO_L2 (hh) : (cc0_scratch5.slice (Rect.unit (s := S6) ![2] S1.size hh)).squeeze S_ squeezes_S1_S_ = smO 2 := smO_congr (s := 2) (by decide) _
@[sl_canon] theorem xS_L2 (hh hs) : (xbM.slice (Rect.unit (s := S6x101x8192) ![2, 0, 0] S1x101x8192.size hh) hs).squeeze S101x8192 squeezes_S1x101x8192_S101x8192 = xS 2 := xS_congr (s := 2) (by decide) _ _
@[sl_canon] theorem oS_L2 (hh hs) : (obM.slice (Rect.unit (s := S6x8192x128) ![2, 0, 0] S1x8192x128.size hh) hs).squeeze S8192x128 squeezes_S1x8192x128_S8192x128 = oS 2 := oS_congr (s := 2) (by decide) _ _
@[sl_canon] theorem xB_L2 (hh hs) : xM.slice (Rect.unit (s := S101x100000) ![0, 16384] S101x8192.size hh) hs = xB (b0 2) := xB_congr (b := b0 2) (by decide) _ _
@[sl_canon] theorem oB_L2 (hh hs) : oM.slice (Rect.unit (s := S100000x128) ![65536, 0] S8192x128.size hh) hs = oB (b1 2) := oB_congr (b := b1 2) (by decide) _ _
@[sl_canon] theorem smI_L3 (hh) : (cc0_scratch4.slice (Rect.unit (s := S6) ![3] S1.size hh)).squeeze S_ squeezes_S1_S_ = smI 3 := smI_congr (s := 3) (by decide) _
@[sl_canon] theorem smO_L3 (hh) : (cc0_scratch5.slice (Rect.unit (s := S6) ![3] S1.size hh)).squeeze S_ squeezes_S1_S_ = smO 3 := smO_congr (s := 3) (by decide) _
@[sl_canon] theorem xS_L3 (hh hs) : (xbM.slice (Rect.unit (s := S6x101x8192) ![3, 0, 0] S1x101x8192.size hh) hs).squeeze S101x8192 squeezes_S1x101x8192_S101x8192 = xS 3 := xS_congr (s := 3) (by decide) _ _
@[sl_canon] theorem oS_L3 (hh hs) : (obM.slice (Rect.unit (s := S6x8192x128) ![3, 0, 0] S1x8192x128.size hh) hs).squeeze S8192x128 squeezes_S1x8192x128_S8192x128 = oS 3 := oS_congr (s := 3) (by decide) _ _
@[sl_canon] theorem xB_L3 (hh hs) : xM.slice (Rect.unit (s := S101x100000) ![0, 24576] S101x8192.size hh) hs = xB (b0 3) := xB_congr (b := b0 3) (by decide) _ _
@[sl_canon] theorem oB_L3 (hh hs) : oM.slice (Rect.unit (s := S100000x128) ![73728, 0] S8192x128.size hh) hs = oB (b1 3) := oB_congr (b := b1 3) (by decide) _ _
@[sl_canon] theorem smI_L4 (hh) : (cc0_scratch4.slice (Rect.unit (s := S6) ![4] S1.size hh)).squeeze S_ squeezes_S1_S_ = smI 4 := smI_congr (s := 4) (by decide) _
@[sl_canon] theorem smO_L4 (hh) : (cc0_scratch5.slice (Rect.unit (s := S6) ![4] S1.size hh)).squeeze S_ squeezes_S1_S_ = smO 4 := smO_congr (s := 4) (by decide) _
@[sl_canon] theorem xS_L4 (hh hs) : (xbM.slice (Rect.unit (s := S6x101x8192) ![4, 0, 0] S1x101x8192.size hh) hs).squeeze S101x8192 squeezes_S1x101x8192_S101x8192 = xS 4 := xS_congr (s := 4) (by decide) _ _
@[sl_canon] theorem oS_L4 (hh hs) : (obM.slice (Rect.unit (s := S6x8192x128) ![4, 0, 0] S1x8192x128.size hh) hs).squeeze S8192x128 squeezes_S1x8192x128_S8192x128 = oS 4 := oS_congr (s := 4) (by decide) _ _
@[sl_canon] theorem xB_L4 (hh hs) : xM.slice (Rect.unit (s := S101x100000) ![0, 32768] S101x8192.size hh) hs = xB (b0 4) := xB_congr (b := b0 4) (by decide) _ _
@[sl_canon] theorem oB_L4 (hh hs) : oM.slice (Rect.unit (s := S100000x128) ![81920, 0] S8192x128.size hh) hs = oB (b1 4) := oB_congr (b := b1 4) (by decide) _ _
@[sl_canon] theorem smI_L5 (hh) : (cc0_scratch4.slice (Rect.unit (s := S6) ![5] S1.size hh)).squeeze S_ squeezes_S1_S_ = smI 5 := smI_congr (s := 5) (by decide) _
@[sl_canon] theorem smO_L5 (hh) : (cc0_scratch5.slice (Rect.unit (s := S6) ![5] S1.size hh)).squeeze S_ squeezes_S1_S_ = smO 5 := smO_congr (s := 5) (by decide) _
@[sl_canon] theorem xS_L5 (hh hs) : (xbM.slice (Rect.unit (s := S6x101x8192) ![5, 0, 0] S1x101x8192.size hh) hs).squeeze S101x8192 squeezes_S1x101x8192_S101x8192 = xS 5 := xS_congr (s := 5) (by decide) _ _
@[sl_canon] theorem oS_L5 (hh hs) : (obM.slice (Rect.unit (s := S6x8192x128) ![5, 0, 0] S1x8192x128.size hh) hs).squeeze S8192x128 squeezes_S1x8192x128_S8192x128 = oS 5 := oS_congr (s := 5) (by decide) _ _
@[sl_canon] theorem xB_L5 (hh hs) : xM.slice (Rect.unit (s := S101x100000) ![0, 40960] S101x8192.size hh) hs = xB (b0 5) := xB_congr (b := b0 5) (by decide) _ _
@[sl_canon] theorem oB_L5 (hh hs) : oM.slice (Rect.unit (s := S100000x128) ![90112, 0] S8192x128.size hh) hs = oB (b1 5) := oB_congr (b := b1 5) (by decide) _ _

/-- The last 1664 whole columns of the input, and the last 1696 rows of the result. -/
abbrev xT : Memref sig .tc .hbm S101x1664 .f32 :=
  xM.slice (Rect.unit (s := S101x100000) ![0, 98304] S101x1664.size inb_S101x100000_S101x1664_0_98304) (fun _ => rfl)
abbrev oT : Memref sig .tc .hbm S1696x128 .f32 :=
  oM.slice (Rect.unit (s := S100000x128) ![98304, 0] S1696x128.size inb_S100000x128_S1696x128_98304_0) (fun _ => rfl)
abbrev xtM : Memref sig .tc .vmem S101x1664 .f32 := Memref.whole cc0_scratch2
abbrev otM : Memref sig .tc .vmem S1696x128 .f32 := Memref.whole cc0_scratch3
/-- The tail's two cells: its copy out, its copy in. -/
abbrev cTO : DmaSem sig := ((cc0_scratch6.slice (Rect.unit (s := S2) ![0] S1.size inb_S2_S1_0)).squeeze S_ squeezes_S1_S_).sem
abbrev cTI : DmaSem sig := ((cc0_scratch6.slice (Rect.unit (s := S2) ![1] S1.size inb_S2_S1_1)).squeeze S_ squeezes_S1_S_).sem

theorem credI (s : Fin 6) : (xS s).view.dmaCredit = 103424 := rfl
theorem credO (b : Fin 12) : (oB b).view.dmaCredit = 131072 := rfl

section Pieces
variable (c : Dev nD) (xt : Buf (Elt F) (xM.view.loc (c : Thread nD τ))) (G : Buf (Elt F) (oM.view.loc (c : Thread nD τ)))

/-- Block `b` of the input at home. -/
abbrev xHome (b : Fin 12) : sProp 𝕄 := (xB b).view.loc (c : Thread nD τ) ↦[(xB b).view.set]{fullShare} xt
/-- Block `b` of the result at contents `f`. -/
abbrev oHome (f : Buf (Elt F) (oM.view.loc (c : Thread nD τ))) (b : Fin 12) : sProp 𝕄 := (oB b).view.loc (c : Thread nD τ) ↦[(oB b).view.set]{fullShare} f
/-- A slot of a ring at contents `f`. -/
abbrev xSlot (s : Fin 6) (f : Buf (Elt F) (xbM.view.loc (c : Thread nD τ))) : sProp 𝕄 := (xS s).view.loc (c : Thread nD τ) ↦[(xS s).view.set]{fullShare} f
abbrev oSlot (s : Fin 6) (f : Buf (Elt F) (obM.view.loc (c : Thread nD τ))) : sProp 𝕄 := (oS s).view.loc (c : Thread nD τ) ↦[(oS s).view.set]{fullShare} f
/-- The cells at zero. -/
abbrev cellI (s : Fin 6) : sProp 𝕄 := semVal ((c : Thread nD τ), SemLoc.dma (cI s)) 0
abbrev cellO (s : Fin 6) : sProp 𝕄 := semVal ((c : Thread nD τ), SemLoc.dma (cO s)) 0
/-- Block `b`'s words landed in slot `s` over `f`. -/
def landed (s : Fin 6) (b : Fin 12) (f : Buf (Elt F) (xbM.view.loc (c : Thread nD τ))) : Buf (Elt F) (xbM.view.loc (c : Thread nD τ)) :=
  (xS s).view.writes (Elt F) f [⟨Rect.whole S101x8192, ReadAs.same.apply ((xB b).view.read (Elt F) xt)⟩]
/-- Slot `s` in flight with the input's block `b`. -/
abbrev flyI (s : Fin 6) (b : Fin 12) (f : Buf (Elt F) (xbM.view.loc (c : Thread nD τ))) : sProp 𝕄 :=
  Transfers.Flight countersEmb (c : Thread nD τ) (SemLoc.dma (cI s)) () 103424 iprop(xSlot c s (landed c xt s b f) ∗ xHome c xt b)
/-- Slot `s` in flight out to the result's block `b`, which lands at `G`. -/
abbrev flyO (s : Fin 6) (b : Fin 12) (f : Buf (Elt F) (obM.view.loc (c : Thread nD τ))) : sProp 𝕄 :=
  Transfers.Flight countersEmb (c : Thread nD τ) (SemLoc.dma (cO s)) () 131072 iprop(oHome c G b ∗ oSlot c s f)

end Pieces

end Cert.KernelIdeal.Gemm

end
-- ==== Proof.KernelIdeal.Trips.lean ====
/-
  The trips of the loop, by case: what one trip takes, waits for, computes and starts.
-/
module

public import proofs.«01_k».proof.Proof.KernelIdeal.Names

@[expose] public section

set_option maxRecDepth 16384

noncomputable section

namespace Cert.KernelIdeal.Gemm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

variable (c : Dev nD) (xt : Buf (Elt F) (xM.view.loc (c : Thread nD τ))) (G : Buf (Elt F) (oM.view.loc (c : Thread nD τ)))
  (arg1 : Memref sig .tc .vmem S101x32 .f32) (harg1 : arg1.IsWhole) (arg2 : Memref sig .tc .vmem S101x128 .f32) (harg2 : arg2.IsWhole)
  (v0 : Vec F S101x128 .f32)

/-- A trip of the loop at the ring's own operands. -/
abbrev body (k : Fin k0_t1_loop.trips) : Prog (TpuEff nD τ sig (Elt F) Λ₀ .tc) Unit :=
  k0_t1_body xM (Memref.isWhole_whole _) arg1 harg1 arg2 harg2 oM (Memref.isWhole_whole _) xbM (Memref.isWhole_whole _) obM (Memref.isWhole_whole _)
    (Memref.whole cc0_scratch2) (Memref.isWhole_whole _) (Memref.whole cc0_scratch3) (Memref.isWhole_whole _) cc0_scratch4 cc0_scratch5 cc0_scratch6 v0 k ()

/-- One block's product. -/
abbrev mm (v0 : Vec F S101x128 .f32) (a : Vec F S101x8192 .f32) : FVec F S8192x128 .f32 :=
  matmul dot_S101x8192_S101x128_S8192x128_0_0_1_1_n_n none a v0 (constant S8192x128 .f32 0x00000000#32)

theorem acX_set {off : Fin 3 → Nat} {s : Fin 6} (e : off = ![s.val, 0, 0]) (hh) :
    (xbM.access (Rect.unit (s := S6x101x8192) off S1x101x8192.size hh)).set = (xS s).view.set := by subst e; exact (View.set_reshape _ _).symm
theorem acO_set {off : Fin 3 → Nat} {s : Fin 6} (e : off = ![s.val, 0, 0]) (hh) :
    (obM.access (Rect.unit (s := S6x8192x128) off S1x8192x128.size hh)).set = (oS s).view.set := by subst e; exact (View.set_reshape _ _).symm
omit [FloatOps F] in
theorem acX_read {off : Fin 3 → Nat} {s : Fin 6} (e : off = ![s.val, 0, 0]) (hh) (f : Buf (Elt F) (xbM.view.loc (c : Thread nD τ))) :
    shapeCast S101x8192 ((xbM.access (Rect.unit (s := S6x101x8192) off S1x101x8192.size hh)).read (Elt F) f) shapeCasts_S1x101x8192_S101x8192
      = (xS s).view.read (Elt F) f := by subst e; rfl
omit [FloatOps F] in
theorem acO_read {off : Fin 3 → Nat} {s : Fin 6} (e : off = ![s.val, 0, 0]) (hh) (f : Buf (Elt F) (obM.view.loc (c : Thread nD τ))) (y : Vec F S8192x128 .f32) :
    (oS s).view.read (Elt F) ((obM.access (Rect.unit (s := S6x8192x128) off S1x8192x128.size hh)).write (Elt F) f
      (shapeCast S1x8192x128 y shapeCasts_S8192x128_S1x8192x128) Finset.univ) = y := by
  subst e; funext j
  have h := congrFun (View.read_write_univ (Val := Elt F) (v := obM.access (Rect.unit (s := S6x8192x128) ![s.val, 0, 0] S1x8192x128.size hh)) f
    (shapeCast S1x8192x128 y shapeCasts_S8192x128_S1x8192x128)) (Shape.reshapeEquiv squeezes_S1x8192x128_S8192x128.numel_eq j)
  refine Eq.trans h ?_
  show y (Shape.reshapeEquiv _ (Shape.reshapeEquiv _ j)) = y j
  rw [Shape.reshapeEquiv_reshapeEquiv, Shape.reshapeEquiv_self]
omit [FloatOps F] in
/-- Contents that a view reads alike are alike on its elements. -/
theorem eq_on_of_read {κ : Kind} {sp : Space} {s : Shape} {e : EltTy} (v : View sig κ sp s e) {f g : v.ty.Contents (Elt F)}
    (h : v.read (Elt F) f = v.read (Elt F) g) : ∀ i ∈ v.set, f i = g i := by
  intro i hi
  obtain ⟨x, -, rfl⟩ := Finset.mem_map.mp hi
  have := congrFun h x
  rw [View.read_apply, View.read_apply] at this
  exact (cast_inj _).mp this
omit [FloatOps F] in
theorem read_writes_whole {κ : Kind} {sp : Space} {s : Shape} {e : EltTy} (v : View sig κ sp s e) (f : v.ty.Contents (Elt F)) (y : s.Idx → Elt F e) :
    v.read (Elt F) (v.writes (Elt F) f [⟨Rect.whole s, y⟩]) = y := by
  funext j
  have h := View.read_writes_cons_emb (Val := Elt F) (v := v) (f := f) (Rect.whole s) y [] j
  rw [Rect.emb_whole_apply] at h
  exact h
omit [FloatOps F] in
/-- What a block's copy leaves in its slot reads back as the block. -/
theorem landed_read (s : Fin 6) (b : Fin 12) (f : Buf (Elt F) (xbM.view.loc (c : Thread nD τ))) :
    (xS s).view.read (Elt F) (landed c xt s b f) = (xB b).view.read (Elt F) xt :=
  read_writes_whole (xS s).view f _
omit [FloatOps F] in
/-- A block of the result written with `G`'s words is held at `G`. -/
theorem landO {b : Fin 12} {y : Vec F S8192x128 .f32} (hG : (oB b).view.read (Elt F) G = y) (f : Buf (Elt F) (oM.view.loc (c : Thread nD τ))) :
    ((oB b).view.loc (c : Thread nD τ) ↦[(oB b).view.set]{fullShare} (oB b).view.writes (Elt F) f [⟨Rect.whole S8192x128, y⟩] : sProp 𝕄) ⊢ oHome c G b := by
  rw [pointsTo_congr (eq_on_of_read (oB b).view ((read_writes_whole (oB b).view f y).trans hG.symm))]
/-- The word a trip sends out is the block's product. -/
theorem sent_eq (k : Fin k0_t1_loop.trips) (b : Fin 12) (fx fo) (h7) (h8) :
    (oS (sl k)).view.read (Elt F) (obM.view.writes (Elt F) fo [⟨Rect.unit (s := S6x8192x128) (k0_off8 k) S1x8192x128.size h8,
      k0_pay1 v0 ((xbM.access (Rect.unit (s := S6x101x8192) (k0_off7 k) S1x101x8192.size h7)).read (Elt F) (landed c xt (sl k) b fx))⟩])
      = mm v0 ((xB b).view.read (Elt F) xt) := by
  refine (acO_read (s := sl k) c (k0_off8_eq k) h8 fo (mm v0 (shapeCast S101x8192 _ shapeCasts_S1x101x8192_S101x8192))).trans ?_
  rw [acX_read (s := sl k) c (k0_off7_eq k) h7, landed_read]

omit [FloatOps F] in
theorem flyO_of (s : Fin 6) (b : Fin 12) (y : Vec F S8192x128 .f32) (f : Buf (Elt F) (oM.view.loc (c : Thread nD τ))) (Z : sProp 𝕄) :
    Transfers.Flight countersEmb (c : Thread nD τ) (SemLoc.dma (cO s)) () 131072
      iprop(((oB b).view.loc (c : Thread nD τ) ↦[(oB b).view.set]{fullShare} (oB b).view.writes (Elt F) f [⟨Rect.whole S8192x128, y⟩]) ∗ Z)
      ⊢ iprop(⌜(oB b).view.read (Elt F) G = y⌝ -∗ Transfers.Flight countersEmb (c : Thread nD τ) (SemLoc.dma (cO s)) () 131072 iprop(oHome c G b ∗ Z)) := by
  iintro H %h
  iapply (Transfers.Flight_mono countersEmb (c : Thread nD τ) (sep_mono_left (landO c G h f))) $$ H

/-- A trip of the first half: the output slot is empty, and the slot's next input block is started. -/
theorem trip0 (hG : ∀ b, (oB b).view.read (Elt F) G = mm v0 ((xB b).view.read (Elt F) xt)) (k : Fin k0_t1_loop.trips) (hk : k.val < 6)
    (fx fo : _) (fg : _) (W : Waits sig Unit) (K : Unit → sProp 𝕄) :
    iprop((flyI c xt (sl k) (bk k) fx ∗ cellO c (sl k) ∗ oSlot c (sl k) fo ∗ oHome c fg (bk k) ∗ xHome c xt (bkn k hk) ∗ owes (c : Thread nD τ) 0 W)
      ∗ (iprop((∃ fx, flyI c xt (sl k) (bkn k hk) fx) ∗ (∃ fo, flyO c G (sl k) (bk k) fo) ∗ xHome c xt (bk k) ∗ ∃ W, owes (c : Thread nD τ) 0 W) -∗ K ()))
      ⊢ wp frame (wpE (defs₀ (F := F)) Variants.none (c : Thread nD τ) none) Set.univ (body arg1 harg1 arg2 harg2 v0 k) K := by
  have h1 : ¬ k0_cond1 k = 1#1 := by rw [cond1_iff]; omega
  have h2 : k0_cond2 k = 1#1 := (cond2_iff k).mpr hk
  unfold body k0_t1_body
  have g7 : (xbM.access (Rect.unit (s := S6x101x8192) (k0_off7 k) S1x101x8192.size (k0_off7_inb k))).set ⊆ (xS (sl k)).view.set := (acX_set (k0_off7_eq k) _).le
  have g8 : (obM.access (Rect.unit (s := S6x8192x128) (k0_off8 k) S1x8192x128.size (k0_off8_inb k))).set ⊆ (oS (sl k)).view.set := (acO_set (k0_off8_eq k) _).le
  iintro ⟨⟨HI, Hc, Ho, HG, Hx, HW⟩, HK⟩
  sl_exec
  sl_step
  iapply HK
  isplitl [HI]; · iexists _; iexact HI
  isplitl [Hc]
  · iexists _
    iapply (flyO_of c G (sl k) (bk k) _ fg _) $$ Hc
    ipureintro
    exact (hG (bk k)).trans (sent_eq c xt v0 k (bk k) fx fo (k0_off7_inb k) (k0_off8_inb k)).symm
  isplitl [HI_src]; · iexact HI_src
  iexists _; iexact HW

/-- A trip of the second half: the slot's input block is the last it takes; its earlier output block comes home first. -/
theorem trip1 (hG : ∀ b, (oB b).view.read (Elt F) G = mm v0 ((xB b).view.read (Elt F) xt)) (k : Fin k0_t1_loop.trips) (hk : ¬ k.val < 6) (b0 : Fin 12)
    (fx fo : _) (fg : _) (W : Waits sig Unit) (K : Unit → sProp 𝕄) :
    iprop((flyI c xt (sl k) (bk k) fx ∗ flyO c G (sl k) b0 fo ∗ oHome c fg (bk k) ∗ owes (c : Thread nD τ) 0 W)
      ∗ (iprop((cellI c (sl k) ∗ ∃ fx, xSlot c (sl k) fx) ∗ (∃ fo, flyO c G (sl k) (bk k) fo) ∗ xHome c xt (bk k) ∗ oHome c G b0 ∗ ∃ W, owes (c : Thread nD τ) 0 W) -∗ K ()))
      ⊢ wp frame (wpE (defs₀ (F := F)) Variants.none (c : Thread nD τ) none) Set.univ (body arg1 harg1 arg2 harg2 v0 k) K := by
  have h1 : k0_cond1 k = 1#1 := (cond1_iff k).mpr (by omega)
  have h2 : ¬ k0_cond2 k = 1#1 := by rw [cond2_iff]; exact hk
  unfold body k0_t1_body
  have g7 : (xbM.access (Rect.unit (s := S6x101x8192) (k0_off7 k) S1x101x8192.size (k0_off7_inb k))).set ⊆ (xS (sl k)).view.set := (acX_set (k0_off7_eq k) _).le
  have g8 : (obM.access (Rect.unit (s := S6x8192x128) (k0_off8 k) S1x8192x128.size (k0_off8_inb k))).set ⊆ (oS (sl k)).view.set := (acO_set (k0_off8_eq k) _).le
  iintro ⟨⟨HI, Hc, HG, HW⟩, HK⟩
  sl_exec
  sl_step
  iapply HK
  isplitl [HI HI_dst]
  · isplitl [HI]; · iexact HI
    iexists _; iexact HI_dst
  isplitl [Hc]
  · iexists _
    iapply (flyO_of c G (sl k) (bk k) _ fg _) $$ Hc
    ipureintro
    exact (hG (bk k)).trans (sent_eq c xt v0 k (bk k) fx fo (k0_off7_inb k) (k0_off8_inb k)).symm
  isplitl [HI_src]; · iexact HI_src
  isplitl [Hc_dst]; · iexact Hc_dst
  iexists _; iexact HW

end Cert.KernelIdeal.Gemm

end
-- ==== Proof.KernelIdeal.Loop.lean ====
/-
  The loop: before trip `k` each slot is in one of three states, and a trip moves its own slot one state on.
-/
module

public import proofs.«01_k».proof.Proof.KernelIdeal.Trips

@[expose] public section

set_option maxRecDepth 16384

noncomputable section

namespace Cert.KernelIdeal.Gemm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

variable (c : Dev nD) (xt : Buf (Elt F) (xM.view.loc (c : Thread nD τ))) (G : Buf (Elt F) (oM.view.loc (c : Thread nD τ)))
  (arg1 : Memref sig .tc .vmem S101x32 .f32) (harg1 : arg1.IsWhole) (arg2 : Memref sig .tc .vmem S101x128 .f32) (harg2 : arg2.IsWhole)
  (v0 : Vec F S101x128 .f32) (o0 : Buf (Elt F) (oM.view.loc (c : Thread nD τ)))

/-- A slot whose first block is on its way in. -/
def st0 (s : Fin 6) : sProp 𝕄 :=
  iprop((∃ f, flyI c xt s (b0 s) f) ∗ cellO c s ∗ (∃ f, oSlot c s f) ∗ oHome c o0 (b0 s) ∗ oHome c o0 (b1 s) ∗ xHome c xt (b1 s))
/-- A slot whose second block is on its way in, its first block's product on its way out. -/
def st1 (s : Fin 6) : sProp 𝕄 :=
  iprop((∃ f, flyI c xt s (b1 s) f) ∗ (∃ f, flyO c G s (b0 s) f) ∗ oHome c o0 (b1 s) ∗ xHome c xt (b0 s))
/-- A slot whose second block's product is on its way out. -/
def st2 (s : Fin 6) : sProp 𝕄 :=
  iprop((cellI c s ∗ ∃ f, xSlot c s f) ∗ (∃ f, flyO c G s (b1 s) f) ∗ oHome c G (b0 s) ∗ xHome c xt (b0 s) ∗ xHome c xt (b1 s))
/-- Slot `s` before trip `k`. -/
def stAt (k : ℕ) (s : Fin 6) : sProp 𝕄 :=
  if k ≤ s.val then st0 c xt o0 s else if k ≤ s.val + 6 then st1 c xt G o0 s else st2 c xt G s

/-- The six slots before trip `k`, and the waits so far. -/
def invAt (k : ℕ) : sProp 𝕄 := iprop(bigSep Finset.univ (stAt c xt G o0 k) ∗ ∃ W, owes (c : Thread nD τ) 0 W)

theorem bk_lo (k : Fin k0_t1_loop.trips) (h : k.val < 6) : bk k = b0 (sl k) := Fin.ext (by show k.val = k.val % 6; omega)
theorem bk_hi (k : Fin k0_t1_loop.trips) (h : ¬ k.val < 6) : bk k = b1 (sl k) := Fin.ext (by have := trips_lt k; show k.val = k.val % 6 + 6; omega)
theorem bkn_eq (k : Fin k0_t1_loop.trips) (h : k.val < 6) : bkn k h = b1 (sl k) := Fin.ext (by show k.val + 6 = k.val % 6 + 6; omega)

/-- The other slots stand still. -/
theorem stAt_other (k : Fin k0_t1_loop.trips) {s : Fin 6} (h : s ≠ sl k) : stAt c xt G o0 (k.val + 1) s = stAt c xt G o0 k.val s := by
  have hs := s.isLt; have hk := trips_lt k
  have hne : s.val ≠ k.val % 6 := fun e => h (Fin.ext e)
  unfold stAt
  by_cases h1 : k.val ≤ s.val
  · rw [if_pos h1, if_pos (by omega)]
  · rw [if_neg h1, if_neg (by omega)]
    by_cases h2 : k.val ≤ s.val + 6
    · rw [if_pos h2, if_pos (by omega)]
    · rw [if_neg h2, if_neg (by omega)]

theorem inv_split (k : Fin k0_t1_loop.trips) (j : ℕ) :
    bigSep Finset.univ (stAt c xt G o0 j) = iprop(stAt c xt G o0 j (sl k) ∗ bigSep (Finset.univ.erase (sl k)) (stAt c xt G o0 j)) :=
  bigSep_erase (Finset.mem_univ _)

/-- One trip. -/
theorem trip (hG : ∀ b, (oB b).view.read (Elt F) G = mm v0 ((xB b).view.read (Elt F) xt)) (k : Fin k0_t1_loop.trips) :
    invAt c xt G o0 k.val ⊢ wp frame (wpE (defs₀ (F := F)) Variants.none (c : Thread nD τ) none) Set.univ (body arg1 harg1 arg2 harg2 v0 k)
      (fun _ => invAt c xt G o0 (k.val + 1)) := by
  have hk := trips_lt k
  have hrest : bigSep (Finset.univ.erase (sl k)) (stAt c xt G o0 (k.val + 1)) = bigSep (Finset.univ.erase (sl k)) (stAt c xt G o0 k.val) :=
    bigSep_congr fun s hs => stAt_other c xt G o0 k (Finset.ne_of_mem_erase hs)
  unfold invAt
  rw [inv_split c xt G o0 k k.val, inv_split c xt G o0 k (k.val + 1), hrest]
  by_cases h : k.val < 6
  · have e0 : stAt c xt G o0 k.val (sl k) = st0 c xt o0 (sl k) := if_pos (show k.val ≤ k.val % 6 by omega)
    have e1 : stAt c xt G o0 (k.val + 1) (sl k) = st1 c xt G o0 (sl k) :=
      (if_neg (show ¬ k.val + 1 ≤ k.val % 6 by omega)).trans (if_pos (show k.val + 1 ≤ k.val % 6 + 6 by omega))
    rw [e0, e1]; unfold st0 st1; rw [← bk_lo k h, ← bkn_eq k h]
    iintro ⟨⟨⟨⟨%fx, HI⟩, Hc, ⟨%fo, Ho⟩, HG0, HG1, Hx⟩, Hrest⟩, ⟨%W, HW⟩⟩
    iapply (trip0 c xt G arg1 harg1 arg2 harg2 v0 hG k h fx fo o0 W)
    isplitl [HI Hc Ho HG0 Hx HW]
    · isplitl [HI]; · iexact HI
      isplitl [Hc]; · iexact Hc
      isplitl [Ho]; · iexact Ho
      isplitl [HG0]; · iexact HG0
      isplitl [Hx]; · iexact Hx
      iexact HW
    iintro ⟨HI, HO, Hx, HW⟩
    isplitr [HW]
    · isplitr [Hrest]
      · isplitl [HI]; · iexact HI
        isplitl [HO]; · iexact HO
        isplitl [HG1]; · iexact HG1
        iexact Hx
      iexact Hrest
    iexact HW
  · have e0 : stAt c xt G o0 k.val (sl k) = st1 c xt G o0 (sl k) :=
      (if_neg (show ¬ k.val ≤ k.val % 6 by omega)).trans (if_pos (show k.val ≤ k.val % 6 + 6 by omega))
    have e1 : stAt c xt G o0 (k.val + 1) (sl k) = st2 c xt G (sl k) :=
      (if_neg (show ¬ k.val + 1 ≤ k.val % 6 by omega)).trans (if_neg (show ¬ k.val + 1 ≤ k.val % 6 + 6 by omega))
    rw [e0, e1]; unfold st1 st2; rw [← bk_hi k h]
    iintro ⟨⟨⟨⟨%fx, HI⟩, ⟨%fo, Hc⟩, HG1, Hx⟩, Hrest⟩, ⟨%W, HW⟩⟩
    iapply (trip1 c xt G arg1 harg1 arg2 harg2 v0 hG k h (b0 (sl k)) fx fo o0 W)
    isplitl [HI Hc HG1 HW]
    · isplitl [HI]; · iexact HI
      isplitl [Hc]; · iexact Hc
      isplitl [HG1]; · iexact HG1
      iexact HW
    iintro ⟨HIx, HO, Hx1, HG0, HW⟩
    isplitr [HW]
    · isplitr [Hrest]
      · isplitl [HIx]; · iexact HIx
        isplitl [HO]; · iexact HO
        isplitl [HG0]; · iexact HG0
        isplitl [Hx]; · iexact Hx
        iexact Hx1
      iexact Hrest
    iexact HW

end Cert.KernelIdeal.Gemm

end
-- ==== Proof.KernelIdeal.Body.lean ====
/-
  The body: the opening copies, the loop, the tail's two products, the closing waits.
-/
module

public import proofs.«01_k».proof.Proof.KernelIdeal.Loop

@[expose] public section

set_option maxRecDepth 16384

noncomputable section

namespace Cert.KernelIdeal.Gemm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

variable (c : Dev nD) (xt : Buf (Elt F) (xM.view.loc (c : Thread nD τ))) (G : Buf (Elt F) (oM.view.loc (c : Thread nD τ)))
  (arg1 : Memref sig .tc .vmem S101x32 .f32) (harg1 : arg1.IsWhole) (arg2 : Memref sig .tc .vmem S101x128 .f32) (harg2 : arg2.IsWhole)
  (o0 : Buf (Elt F) (oM.view.loc (c : Thread nD τ)))
  (gx : Buf (Elt F) (arg1.view.loc (c : Thread nD τ))) (gw : Buf (Elt F) (arg2.view.loc (c : Thread nD τ)))

/-- A slot at rest, its two result blocks at `f`. -/
def rest (f : Buf (Elt F) (oM.view.loc (c : Thread nD τ))) (s : Fin 6) : sProp 𝕄 :=
  iprop(cellI c s ∗ cellO c s ∗ (∃ f, xSlot c s f) ∗ (∃ f, oSlot c s f) ∗ oHome c f (b0 s) ∗ oHome c f (b1 s) ∗ xHome c xt (b0 s) ∗ xHome c xt (b1 s))

/-- The tail at rest, its rows of the result at `f`. -/
def restT (f : Buf (Elt F) (oM.view.loc (c : Thread nD τ))) : sProp 𝕄 :=
  iprop((xT.view.loc (c : Thread nD τ) ↦[xT.view.set]{fullShare} xt) ∗ (oT.view.loc (c : Thread nD τ) ↦[oT.view.set]{fullShare} f)
    ∗ (∃ f, xtM.view.loc (c : Thread nD τ) ↦{fullShare} f) ∗ (∃ f, otM.view.loc (c : Thread nD τ) ↦{fullShare} f)
    ∗ semVal ((c : Thread nD τ), SemLoc.dma cTO) 0 ∗ semVal ((c : Thread nD τ), SemLoc.dma cTI) 0)

/-- What the body is handed, and hands back. -/
def held (f : Buf (Elt F) (oM.view.loc (c : Thread nD τ))) : sProp 𝕄 :=
  iprop((arg1.view.loc (c : Thread nD τ) ↦[arg1.view.set]{fullShare} gx) ∗ (arg2.view.loc (c : Thread nD τ) ↦[arg2.view.set]{fullShare} gw)
    ∗ bigSep Finset.univ (rest c xt f) ∗ restT c xt f)

omit [FloatOps F] in
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem stAt_zero (s : Fin 6) : stAt c xt G o0 0 s = st0 c xt o0 s := if_pos (Nat.zero_le _)
omit [FloatOps F] in
theorem stAt_last (s : Fin 6) : stAt c xt G o0 12 s = st2 c xt G s :=
  (if_neg (show ¬ 12 ≤ s.val by have := s.isLt; omega)).trans (if_neg (show ¬ 12 ≤ s.val + 6 by have := s.isLt; omega))

omit [FloatOps F] in
/-- Before the loop each slot has its first block on the way in. -/
theorem inv_first : iprop((st0 c xt o0 0 ∗ st0 c xt o0 1 ∗ st0 c xt o0 2 ∗ st0 c xt o0 3 ∗ st0 c xt o0 4 ∗ st0 c xt o0 5) ∗ ∃ W, owes (c : Thread nD τ) 0 W)
    ⊢ (invAt c xt G o0 0 : sProp 𝕄) := by
  unfold invAt
  rw [six]
  simp only [stAt_zero]
  exact .rfl

omit [FloatOps F] in
/-- After the loop each slot has its second block's product on the way out. -/
theorem inv_last (n : ℕ) (hn : n = 12) : (invAt c xt G o0 n : sProp 𝕄)
    ⊢ iprop((st2 c xt G 0 ∗ st2 c xt G 1 ∗ st2 c xt G 2 ∗ st2 c xt G 3 ∗ st2 c xt G 4 ∗ st2 c xt G 5) ∗ ∃ W, owes (c : Thread nD τ) 0 W) := by
  subst hn
  unfold invAt
  rw [six]
  simp only [stAt_last]
  exact .rfl

/-- The weights and the last columns as the body reads them. -/
abbrev wOf : Vec F S101x128 .f32 := arg2.view.readAt (Elt F) (Rect.unit (s := S101x128) ![0, 0] S101x128.size inb_S101x128_S101x128_0_0).toLoadRect gw
abbrev rOf : Vec F S101x32 .f32 := arg1.view.readAt (Elt F) (Rect.unit (s := S101x32) ![0, 0] S101x32.size inb_S101x32_S101x32_0_0).toLoadRect gx
abbrev RT1 : Rect S1696x128 := Rect.unit (s := S1696x128) ![0, 0] S1664x128.size inb_S1696x128_S1664x128_0_0
abbrev RT2 : Rect S1696x128 := Rect.unit (s := S1696x128) ![1664, 0] S32x128.size inb_S1696x128_S32x128_1664_0

omit [FloatOps F] in
theorem landT {y : Vec F S1696x128 .f32} (hG : oT.view.read (Elt F) G = y) (f : Buf (Elt F) (oM.view.loc (c : Thread nD τ))) :
    (oT.view.loc (c : Thread nD τ) ↦[oT.view.set]{fullShare} oT.view.writes (Elt F) f [⟨Rect.whole S1696x128, y⟩] : sProp 𝕄)
      ⊢ oT.view.loc (c : Thread nD τ) ↦[oT.view.set]{fullShare} G := by
  rw [pointsTo_congr (eq_on_of_read oT.view ((read_writes_whole oT.view f y).trans hG.symm))]

omit [FloatOps F] in
theorem landT_of (y : Vec F S1696x128 .f32) (f : Buf (Elt F) (oM.view.loc (c : Thread nD τ))) :
    (oT.view.loc (c : Thread nD τ) ↦[oT.view.set]{fullShare} oT.view.writes (Elt F) f [⟨Rect.whole S1696x128, y⟩] : sProp 𝕄)
      ⊢ iprop(⌜oT.view.read (Elt F) G = y⌝ -∗ oT.view.loc (c : Thread nD τ) ↦[oT.view.set]{fullShare} G) := by
  iintro H %hG
  iapply (landT c G hG f) $$ H

/-- The tail's two products, written one under the other, are `G`'s last rows. -/
theorem tail_read (hT1 : ∀ x : S1664x128.Idx, oT.view.read (Elt F) G (RT1.emb x) = k0_pay2 (wOf c arg2 gw) (xT.view.read (Elt F) xt) x)
    (hT2 : ∀ x : S32x128.Idx, oT.view.read (Elt F) G (RT2.emb x) = k0_pay3 (wOf c arg2 gw) (rOf c arg1 gx) x)
    (fxt : Buf (Elt F) (xtM.view.loc (c : Thread nD τ))) (fot : Buf (Elt F) (otM.view.loc (c : Thread nD τ))) :
    oT.view.read (Elt F) G = otM.view.read (Elt F) (otM.view.writes (Elt F) fot
      [⟨RT2, k0_pay3 (wOf c arg2 gw) (rOf c arg1 gx)⟩,
       ⟨RT1, k0_pay2 (wOf c arg2 gw) (xtM.view.readAt (Elt F) (Rect.unit (s := S101x1664) ![0, 0] S101x1664.size inb_S101x1664_S101x1664_0_0).toLoadRect
          (xtM.view.write (Elt F) fxt (xT.view.read (Elt F) xt) Finset.univ))⟩]) := by
  have e : xtM.view.readAt (Elt F) (Rect.unit (s := S101x1664) ![0, 0] S101x1664.size inb_S101x1664_S101x1664_0_0).toLoadRect
      (xtM.view.write (Elt F) fxt (xT.view.read (Elt F) xt) Finset.univ) = xT.view.read (Elt F) xt :=
    (Memref.readAt_unit_zero (Elt F) cc0_scratch2 (by decide) _ _).trans (View.read_write_univ (v := xtM.view) fxt _)
  rw [e]
  funext y
  refine (View.read_writes_apply_of_pieces (Val := Elt F) otM.view fot (oT.view.read (Elt F) G) _ ?_ y ?_).symm
  · intro p hp x
    rcases List.mem_cons.mp hp with rfl | hp
    · exact (hT2 x).symm
    · obtain rfl := List.mem_singleton.mp hp
      exact (hT1 x).symm
  · have h0 : (y 0).val < 1696 := (y 0).isLt
    have h1 : (y 1).val < 128 := (y 1).isLt
    by_cases h : (y 0).val < 1664
    · refine ⟨_, List.mem_cons_of_mem _ (List.mem_singleton.mpr rfl), (Rect.mem_set_unit (inb := inb_S1696x128_S1664x128_0_0)).mpr fun a => ?_⟩
      fin_cases a
      · show 0 ≤ (y 0).val ∧ (y 0).val < 0 + 1664; omega
      · show 0 ≤ (y 1).val ∧ (y 1).val < 0 + 128; omega
    · refine ⟨_, List.mem_cons_self, (Rect.mem_set_unit (inb := inb_S1696x128_S32x128_1664_0)).mpr fun a => ?_⟩
      fin_cases a
      · show 1664 ≤ (y 0).val ∧ (y 0).val < 1664 + 32; omega
      · show 0 ≤ (y 1).val ∧ (y 1).val < 0 + 128; omega

theorem bodyRun (hG : ∀ b, (oB b).view.read (Elt F) G = mm (wOf c arg2 gw) ((xB b).view.read (Elt F) xt))
    (hT1 : ∀ x : S1664x128.Idx, oT.view.read (Elt F) G (RT1.emb x) = k0_pay2 (wOf c arg2 gw) (xT.view.read (Elt F) xt) x)
    (hT2 : ∀ x : S32x128.Idx, oT.view.read (Elt F) G (RT2.emb x) = k0_pay3 (wOf c arg2 gw) (rOf c arg1 gx) x)
    (W : Waits sig Unit) (K : PUnit → sProp 𝕄) :
    iprop((held c xt arg1 arg2 gx gw o0 ∗ owes (c : Thread nD τ) 0 W) ∗ (iprop(held c xt arg1 arg2 gx gw G ∗ ∃ W, owes (c : Thread nD τ) 0 W) -∗ K ⟨⟩))
      ⊢ wp frame (wpE (defs₀ (F := F)) Variants.none (c : Thread nD τ) none) Set.univ
          (cc0__pipeline xM (Memref.isWhole_whole _) arg1 harg1 arg2 harg2 oM (Memref.isWhole_whole _) xbM (Memref.isWhole_whole _) obM (Memref.isWhole_whole _)
            xtM (Memref.isWhole_whole _) otM (Memref.isWhole_whole _) cc0_scratch4 cc0_scratch5 cc0_scratch6) K := by
  unfold held restT
  rw [six, six]
  unfold rest
  iintro ⟨⟨⟨Hx, Hw, ⟨⟨I0, O0, ⟨%fx0, X0⟩, ⟨%fo0, Y0⟩, A0, B0, C0, D0⟩, ⟨I1, O1, ⟨%fx1, X1⟩, ⟨%fo1, Y1⟩, A1, B1, C1, D1⟩,
    ⟨I2, O2, ⟨%fx2, X2⟩, ⟨%fo2, Y2⟩, A2, B2, C2, D2⟩, ⟨I3, O3, ⟨%fx3, X3⟩, ⟨%fo3, Y3⟩, A3, B3, C3, D3⟩,
    ⟨I4, O4, ⟨%fx4, X4⟩, ⟨%fo4, Y4⟩, A4, B4, C4, D4⟩, ⟨I5, O5, ⟨%fx5, X5⟩, ⟨%fo5, Y5⟩, A5, B5, C5, D5⟩⟩,
    HxT, HoT, ⟨%fxt, Hxt⟩, ⟨%fot, Hot⟩, HcO, HcI⟩, HW⟩, HK⟩
  sl_exec
  iapply (Scf.wp_for_bind frame (wpE (defs₀ (F := F)) Variants.none (c : Thread nD τ) none) Set.univ k0_t1_loop.lb k0_t1_loop.ub k0_t1_loop.st k0_t1_ok ()
    (k0_t1_body xM (Memref.isWhole_whole _) arg1 harg1 arg2 harg2 oM (Memref.isWhole_whole _) xbM (Memref.isWhole_whole _) obM (Memref.isWhole_whole _)
      xtM (Memref.isWhole_whole _) otM (Memref.isWhole_whole _) cc0_scratch4 cc0_scratch5 cc0_scratch6 (wOf c arg2 gw))
    (fun k _ => invAt c xt G o0 k) (fun k _ => trip c xt G arg1 harg1 arg2 harg2 (wOf c arg2 gw) o0 hG k)) $$ [I0 O0 Y0 A0 B0 D0 I1 O1 Y1 A1 B1 D1 I2 O2 Y2 A2 B2 D2 I3 O3 Y3 A3 B3 D3 I4 O4 Y4 A4 B4 D4 I5 O5 Y5 A5 B5 D5 HW]
  · iapply (inv_first c xt G o0)
    isplitr [HW]
    · skip
      isplitl [I0 O0 Y0 A0 B0 D0]
      · unfold st0
        isplitl [I0]; · iexists _; iexact I0
        isplitl [O0]; · iexact O0
        isplitl [Y0]; · iexists _; iexact Y0
        isplitl [A0]; · iexact A0
        isplitl [B0]; · iexact B0
        iexact D0
      isplitl [I1 O1 Y1 A1 B1 D1]
      · unfold st0
        isplitl [I1]; · iexists _; iexact I1
        isplitl [O1]; · iexact O1
        isplitl [Y1]; · iexists _; iexact Y1
        isplitl [A1]; · iexact A1
        isplitl [B1]; · iexact B1
        iexact D1
      isplitl [I2 O2 Y2 A2 B2 D2]
      · unfold st0
        isplitl [I2]; · iexists _; iexact I2
        isplitl [O2]; · iexact O2
        isplitl [Y2]; · iexists _; iexact Y2
        isplitl [A2]; · iexact A2
        isplitl [B2]; · iexact B2
        iexact D2
      isplitl [I3 O3 Y3 A3 B3 D3]
      · unfold st0
        isplitl [I3]; · iexists _; iexact I3
        isplitl [O3]; · iexact O3
        isplitl [Y3]; · iexists _; iexact Y3
        isplitl [A3]; · iexact A3
        isplitl [B3]; · iexact B3
        iexact D3
      isplitl [I4 O4 Y4 A4 B4 D4]
      · unfold st0
        isplitl [I4]; · iexists _; iexact I4
        isplitl [O4]; · iexact O4
        isplitl [Y4]; · iexists _; iexact Y4
        isplitl [A4]; · iexact A4
        isplitl [B4]; · iexact B4
        iexact D4
      unfold st0
      isplitl [I5]; · iexists _; iexact I5
      isplitl [O5]; · iexact O5
      isplitl [Y5]; · iexists _; iexact Y5
      isplitl [A5]; · iexact A5
      isplitl [B5]; · iexact B5
      iexact D5
    iexists _; iexact HW
  iintro %acc Hinv
  ihave Hl := (inv_last c xt G o0 _ (by decide)) $$ Hinv
  unfold st2
  icases Hl with ⟨⟨⟨⟨I0, ⟨%fx0', X0⟩⟩, ⟨%fo0', O0⟩, A0, C0, D0⟩, ⟨⟨I1, ⟨%fx1', X1⟩⟩, ⟨%fo1', O1⟩, A1, C1, D1⟩, ⟨⟨I2, ⟨%fx2', X2⟩⟩, ⟨%fo2', O2⟩, A2, C2, D2⟩, ⟨⟨I3, ⟨%fx3', X3⟩⟩, ⟨%fo3', O3⟩, A3, C3, D3⟩, ⟨⟨I4, ⟨%fx4', X4⟩⟩, ⟨%fo4', O4⟩, A4, C4, D4⟩, ⟨⟨I5, ⟨%fx5', X5⟩⟩, ⟨%fo5', O5⟩, A5, C5, D5⟩⟩, ⟨%W', HW⟩⟩
  sl_exec
  sl_step
  iapply HK
  isplitr [HW]
  · isplitl [Hx]; · iexact Hx
    isplitl [Hw]; · iexact Hw
    isplitr [HxT HoT Hxt Hot HcO HcI]
    · skip
      isplitl [I0 O0 X0 O0_src A0 O0_dst C0 D0]
      · skip
        isplitl [I0]; · iexact I0
        isplitl [O0]; · iexact O0
        isplitl [X0]; · iexists _; iexact X0
        isplitl [O0_src]; · iexists _; iexact O0_src
        isplitl [A0]; · iexact A0
        isplitl [O0_dst]; · iexact O0_dst
        isplitl [C0]; · iexact C0
        iexact D0
      isplitl [I1 O1 X1 O1_src A1 O1_dst C1 D1]
      · skip
        isplitl [I1]; · iexact I1
        isplitl [O1]; · iexact O1
        isplitl [X1]; · iexists _; iexact X1
        isplitl [O1_src]; · iexists _; iexact O1_src
        isplitl [A1]; · iexact A1
        isplitl [O1_dst]; · iexact O1_dst
        isplitl [C1]; · iexact C1
        iexact D1
      isplitl [I2 O2 X2 O2_src A2 O2_dst C2 D2]
      · skip
        isplitl [I2]; · iexact I2
        isplitl [O2]; · iexact O2
        isplitl [X2]; · iexists _; iexact X2
        isplitl [O2_src]; · iexists _; iexact O2_src
        isplitl [A2]; · iexact A2
        isplitl [O2_dst]; · iexact O2_dst
        isplitl [C2]; · iexact C2
        iexact D2
      isplitl [I3 O3 X3 O3_src A3 O3_dst C3 D3]
      · skip
        isplitl [I3]; · iexact I3
        isplitl [O3]; · iexact O3
        isplitl [X3]; · iexists _; iexact X3
        isplitl [O3_src]; · iexists _; iexact O3_src
        isplitl [A3]; · iexact A3
        isplitl [O3_dst]; · iexact O3_dst
        isplitl [C3]; · iexact C3
        iexact D3
      isplitl [I4 O4 X4 O4_src A4 O4_dst C4 D4]
      · skip
        isplitl [I4]; · iexact I4
        isplitl [O4]; · iexact O4
        isplitl [X4]; · iexists _; iexact X4
        isplitl [O4_src]; · iexists _; iexact O4_src
        isplitl [A4]; · iexact A4
        isplitl [O4_dst]; · iexact O4_dst
        isplitl [C4]; · iexact C4
        iexact D4
      isplitl [I5]; · iexact I5
      isplitl [O5]; · iexact O5
      isplitl [X5]; · iexists _; iexact X5
      isplitl [O5_src]; · iexists _; iexact O5_src
      isplitl [A5]; · iexact A5
      isplitl [O5_dst]; · iexact O5_dst
      isplitl [C5]; · iexact C5
      iexact D5
    isplitl [HxT]; · iexact HxT
    isplitl [HoT]
    · iapply (landT_of c G _ o0) $$ HoT
      ipureintro
      exact tail_read c xt G arg1 arg2 gx gw hT1 hT2 fxt fot
    isplitl [Hxt]; · iexists _; iexact Hxt
    isplitl [Hot]; · iexists _; iexact Hot
    isplitl [HcO]; · iexact HcO
    iexact HcI
  iexists _; iexact HW

end Cert.KernelIdeal.Gemm

end
-- ==== Proof.KernelIdeal.Blocks.lean ====
/-
  The buffers taken apart: the input and the result into the slots' blocks and the tail, the two rings into their slots.
-/
module

public import proofs.«01_k».proof.Proof.KernelIdeal.Body

@[expose] public section

set_option maxRecDepth 16384

noncomputable section

namespace Cert.KernelIdeal.Gemm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- The slots' first blocks, their second blocks, and what lies past them. -/
abbrev Parts (n : ℕ) : Type := (Fin 6 ⊕ Fin 6) ⊕ Fin n

theorem sep_parts {n : ℕ} (Φ : Parts n → sProp 𝕄) :
    bigSep Finset.univ Φ = iprop((bigSep Finset.univ (fun s => Φ (.inl (.inl s))) ∗ bigSep Finset.univ (fun s => Φ (.inl (.inr s)))) ∗ bigSep Finset.univ (fun s => Φ (.inr s))) := by
  rw [bigSep_univ_sum, bigSep_univ_sum]; rfl

/-- Where each part of the 100000 rows, or columns, starts and ends. -/
def lo {n : ℕ} : Parts n → ℕ
  | .inl (.inl s) => 8192 * s.val
  | .inl (.inr s) => 8192 * (s.val + 6)
  | .inr t => 98304 + 1664 * t.val
def hi {n : ℕ} (w : Fin n → ℕ) : Parts n → ℕ
  | .inl (.inl s) => 8192 * s.val + 8192
  | .inl (.inr s) => 8192 * (s.val + 6) + 8192
  | .inr t => 98304 + 1664 * t.val + w t

/-! ## The result -/

abbrev oI : Parts 1 → Finset S100000x128.Idx
  | .inl (.inl s) => (oB (b0 s)).view.set
  | .inl (.inr s) => (oB (b1 s)).view.set
  | .inr _ => oT.view.set

theorem mem_oI (p : Parts 1) (y : S100000x128.Idx) : y ∈ oI p ↔ lo p ≤ (y 0).val ∧ (y 0).val < hi (fun _ => 1696) p := by
  have h1 : (y 1).val < 128 := (y 1).isLt
  rcases p with (s | s) | t
  · refine (iff_of_eq (congrArg (y ∈ ·) (View.set_slice_whole main_v0 _))).trans (Rect.mem_set_unit.trans ⟨fun H => H 0, fun H a => ?_⟩)
    fin_cases a
    · exact H
    · show 0 ≤ (y 1).val ∧ (y 1).val < 0 + 128; omega
  · refine (iff_of_eq (congrArg (y ∈ ·) (View.set_slice_whole main_v0 _))).trans (Rect.mem_set_unit.trans ⟨fun H => H 0, fun H a => ?_⟩)
    fin_cases a
    · exact H
    · show 0 ≤ (y 1).val ∧ (y 1).val < 0 + 128; omega
  · have ht : t.val = 0 := by have := t.isLt; omega
    refine (iff_of_eq (congrArg (y ∈ ·) (View.set_slice_whole main_v0 _))).trans (Rect.mem_set_unit.trans ⟨fun H => ?_, fun H a => ?_⟩)
    · have a0 : 98304 ≤ (y 0).val ∧ (y 0).val < 98304 + 1696 := H 0
      show 98304 + 1664 * t.val ≤ (y 0).val ∧ (y 0).val < 98304 + 1664 * t.val + 1696
      omega
    · have H' : 98304 + 1664 * t.val ≤ (y 0).val ∧ (y 0).val < 98304 + 1664 * t.val + 1696 := H
      fin_cases a
      · show 98304 ≤ (y 0).val ∧ (y 0).val < 98304 + 1696; omega
      · show 0 ≤ (y 1).val ∧ (y 1).val < 0 + 128; omega

theorem parts_disj {n : ℕ} (w : Fin n → ℕ) (hw : ∀ t : Fin n, t.val + 1 < n → w t = 1664) (p q : Parts n) (h : p ≠ q) (x : ℕ)
    (h1 : lo p ≤ x ∧ x < hi w p) (h2 : lo q ≤ x ∧ x < hi w q) : False := by
  rcases p with (s | s) | s <;> rcases q with (t | t) | t <;> simp only [lo, hi] at h1 h2 <;> have hs := s.isLt <;> have ht := t.isLt <;> try omega
  · exact h (by rw [Fin.ext (show s.val = t.val by omega)])
  · exact h (by rw [Fin.ext (show s.val = t.val by omega)])
  · have hne : s.val ≠ t.val := fun e => h (by rw [Fin.ext e])
    rcases Nat.lt_or_gt_of_ne hne with hl | hl
    · have := hw s (by omega); omega
    · have := hw t (by omega); omega

theorem oI_disjoint : ∀ p q : Parts 1, p ≠ q → Disjoint (oI p) (oI q) := by
  intro p q h; rw [Finset.disjoint_left]; intro y hp hq
  rw [mem_oI] at hp hq
  exact parts_disj _ (fun t ht => absurd t.isLt (by omega)) p q h _ hp hq

theorem oI_cover : (Finset.univ : Finset (Parts 1)).biUnion oI = Finset.univ := by
  ext y; simp only [Finset.mem_biUnion, Finset.mem_univ, true_and, iff_true]
  have hy : (y 0).val < 100000 := (y 0).isLt
  by_cases h : (y 0).val < 49152
  · exact ⟨.inl (.inl ⟨(y 0).val / 8192, by omega⟩), (mem_oI _ y).mpr (by simp only [lo, hi]; omega)⟩
  · by_cases h' : (y 0).val < 98304
    · exact ⟨.inl (.inr ⟨(y 0).val / 8192 - 6, by omega⟩), (mem_oI _ y).mpr (by simp only [lo, hi]; omega)⟩
    · exact ⟨.inr 0, (mem_oI _ y).mpr (by simp only [lo, hi, Fin.val_zero]; omega)⟩

/-- The result held whole is its blocks and its tail. -/
theorem o_parts (c : Dev nD) (f : Buf (Elt F) (oM.view.loc (c : Thread nD τ))) :
    (((c : Thread nD τ).loc main_v0) ↦{fullShare} f : sProp 𝕄)
      = iprop((bigSep Finset.univ (fun s => oHome c f (b0 s)) ∗ bigSep Finset.univ (fun s => oHome c f (b1 s))) ∗ (oT.view.loc (c : Thread nD τ) ↦[oT.view.set]{fullShare} f)) := by
  rw [Ring.pointsTo_blocks (ℓ := (c : Thread nD τ).loc main_v0) oI oI_disjoint oI_cover, sep_parts, bigSep_univ_of_subsingleton (0 : Fin 1)]
  rfl

/-! ## The input -/

theorem inbR : ∀ a, (![0, 99968] : Fin 2 → Nat) a + S101x32.size a ≤ S101x100000.size a := by decide
/-- The columns the body leaves where they lie. -/
abbrev xR : Memref sig .tc .hbm S101x32 .f32 := xM.slice (Rect.unit (s := S101x100000) ![0, 99968] S101x32.size inbR) (fun _ => rfl)

abbrev xI : Parts 2 → Finset S101x100000.Idx
  | .inl (.inl s) => (xB (b0 s)).view.set
  | .inl (.inr s) => (xB (b1 s)).view.set
  | .inr 0 => xT.view.set
  | .inr 1 => xR.view.set

theorem mem_xI (p : Parts 2) (y : S101x100000.Idx) : y ∈ xI p ↔ lo p ≤ (y 1).val ∧ (y 1).val < hi ![1664, 32] p := by
  have h0 : (y 0).val < 101 := (y 0).isLt
  rcases p with (s | s) | t
  · refine (iff_of_eq (congrArg (y ∈ ·) (View.set_slice_whole main_call0_v0 _))).trans (Rect.mem_set_unit.trans ⟨fun H => H 1, fun H a => ?_⟩)
    fin_cases a
    · show 0 ≤ (y 0).val ∧ (y 0).val < 0 + 101; omega
    · exact H
  · refine (iff_of_eq (congrArg (y ∈ ·) (View.set_slice_whole main_call0_v0 _))).trans (Rect.mem_set_unit.trans ⟨fun H => H 1, fun H a => ?_⟩)
    fin_cases a
    · show 0 ≤ (y 0).val ∧ (y 0).val < 0 + 101; omega
    · exact H
  · fin_cases t
    · refine (iff_of_eq (congrArg (y ∈ ·) (View.set_slice_whole main_call0_v0 _))).trans (Rect.mem_set_unit.trans ⟨fun H => H 1, fun H a => ?_⟩)
      fin_cases a
      · show 0 ≤ (y 0).val ∧ (y 0).val < 0 + 101; omega
      · exact H
    · refine (iff_of_eq (congrArg (y ∈ ·) (View.set_slice_whole main_call0_v0 _))).trans (Rect.mem_set_unit.trans ⟨fun H => H 1, fun H a => ?_⟩)
      fin_cases a
      · show 0 ≤ (y 0).val ∧ (y 0).val < 0 + 101; omega
      · exact H

theorem xI_disjoint : ∀ p q : Parts 2, p ≠ q → Disjoint (xI p) (xI q) := by
  intro p q h; rw [Finset.disjoint_left]; intro y hp hq
  rw [mem_xI] at hp hq
  exact parts_disj _ (fun t ht => by obtain rfl : t = 0 := Fin.ext (show t.val = 0 by omega); rfl) p q h _ hp hq

theorem xI_cover : (Finset.univ : Finset (Parts 2)).biUnion xI = Finset.univ := by
  ext y; simp only [Finset.mem_biUnion, Finset.mem_univ, true_and, iff_true]
  have hy : (y 1).val < 100000 := (y 1).isLt
  by_cases h : (y 1).val < 49152
  · exact ⟨.inl (.inl ⟨(y 1).val / 8192, by omega⟩), (mem_xI _ y).mpr (by simp only [lo, hi]; omega)⟩
  · by_cases h' : (y 1).val < 98304
    · exact ⟨.inl (.inr ⟨(y 1).val / 8192 - 6, by omega⟩), (mem_xI _ y).mpr (by simp only [lo, hi]; omega)⟩
    · by_cases h'' : (y 1).val < 99968
      · exact ⟨.inr 0, (mem_xI _ y).mpr (by show 98304 ≤ _ ∧ _ < 98304 + 1664; omega)⟩
      · exact ⟨.inr 1, (mem_xI _ y).mpr (by show 99968 ≤ _ ∧ _ < 99968 + 32; omega)⟩

/-- The input held whole is its blocks, the tail's window and the last columns. -/
theorem x_parts (c : Dev nD) (f : Buf (Elt F) (xM.view.loc (c : Thread nD τ))) :
    (((c : Thread nD τ).loc main_call0_v0) ↦{fullShare} f : sProp 𝕄)
      = iprop((bigSep Finset.univ (fun s => xHome c f (b0 s)) ∗ bigSep Finset.univ (fun s => xHome c f (b1 s)))
        ∗ (xT.view.loc (c : Thread nD τ) ↦[xT.view.set]{fullShare} f) ∗ (xR.view.loc (c : Thread nD τ) ↦[xR.view.set]{fullShare} f)) := by
  rw [Ring.pointsTo_blocks (ℓ := (c : Thread nD τ).loc main_call0_v0) xI xI_disjoint xI_cover, sep_parts,
    bigSep_univ_eq_bigSepL [(0 : Fin 2), 1] (by decide) (by decide)]
  rfl

/-! ## The rings -/

abbrev xSs (s : Fin 6) : Finset S6x101x8192.Idx := (xS s).view.set
abbrev oSs (s : Fin 6) : Finset S6x8192x128.Idx := (oS s).view.set

theorem mem_xS (s : Fin 6) (y : S6x101x8192.Idx) : y ∈ xSs s ↔ (y 0).val = s.val := by
  have h1 : (y 1).val < 101 := (y 1).isLt
  have h2 : (y 2).val < 8192 := (y 2).isLt
  refine (iff_of_eq (congrArg (y ∈ ·) ((View.set_reshape _ _).trans (View.set_slice_whole cc0_scratch0 _)))).trans (Rect.mem_set_unit.trans ⟨fun H => ?_, fun H a => ?_⟩)
  · have a0 : s.val ≤ (y 0).val ∧ (y 0).val < s.val + 1 := H 0; omega
  · fin_cases a
    · show s.val ≤ (y 0).val ∧ (y 0).val < s.val + 1; omega
    · show 0 ≤ (y 1).val ∧ (y 1).val < 0 + 101; omega
    · show 0 ≤ (y 2).val ∧ (y 2).val < 0 + 8192; omega
theorem mem_oS (s : Fin 6) (y : S6x8192x128.Idx) : y ∈ oSs s ↔ (y 0).val = s.val := by
  have h1 : (y 1).val < 8192 := (y 1).isLt
  have h2 : (y 2).val < 128 := (y 2).isLt
  refine (iff_of_eq (congrArg (y ∈ ·) ((View.set_reshape _ _).trans (View.set_slice_whole cc0_scratch1 _)))).trans (Rect.mem_set_unit.trans ⟨fun H => ?_, fun H a => ?_⟩)
  · have a0 : s.val ≤ (y 0).val ∧ (y 0).val < s.val + 1 := H 0; omega
  · fin_cases a
    · show s.val ≤ (y 0).val ∧ (y 0).val < s.val + 1; omega
    · show 0 ≤ (y 1).val ∧ (y 1).val < 0 + 8192; omega
    · show 0 ≤ (y 2).val ∧ (y 2).val < 0 + 128; omega

theorem xS_disjoint : ∀ s t : Fin 6, s ≠ t → Disjoint (xSs s) (xSs t) := by
  intro s t h; rw [Finset.disjoint_left]; intro y hs ht; rw [mem_xS] at hs ht; exact h (Fin.ext (hs.symm.trans ht))
theorem oS_disjoint : ∀ s t : Fin 6, s ≠ t → Disjoint (oSs s) (oSs t) := by
  intro s t h; rw [Finset.disjoint_left]; intro y hs ht; rw [mem_oS] at hs ht; exact h (Fin.ext (hs.symm.trans ht))
theorem xS_cover : (Finset.univ : Finset (Fin 6)).biUnion xSs = Finset.univ := by
  ext y; simp only [Finset.mem_biUnion, Finset.mem_univ, true_and, iff_true]; exact ⟨⟨(y 0).val, (y 0).isLt⟩, (mem_xS _ y).mpr rfl⟩
theorem oS_cover : (Finset.univ : Finset (Fin 6)).biUnion oSs = Finset.univ := by
  ext y; simp only [Finset.mem_biUnion, Finset.mem_univ, true_and, iff_true]; exact ⟨⟨(y 0).val, (y 0).isLt⟩, (mem_oS _ y).mpr rfl⟩

/-- A ring held whole is its slots, each at some contents, and back. -/
theorem x_slots (c : Dev nD) : (iprop(∃ f : Buf (Elt F) ((c : Thread nD τ).loc cc0_scratch0), ((c : Thread nD τ).loc cc0_scratch0) ↦{fullShare} f) : sProp 𝕄)
    ⊢ bigSep Finset.univ (fun s => iprop(∃ f, xSlot c s f)) := by
  iintro ⟨%f, H⟩
  iapply (show (((c : Thread nD τ).loc cc0_scratch0) ↦{fullShare} f : sProp 𝕄) ⊢ bigSep Finset.univ (fun s => iprop(∃ f, xSlot c s f)) from by
    rw [Ring.pointsTo_blocks (ℓ := (c : Thread nD τ).loc cc0_scratch0) xSs xS_disjoint xS_cover]
    exact bigSep_mono fun s _ => exists_intro (Φ := fun f => xSlot c s f) f) $$ H
theorem o_slots (c : Dev nD) : (iprop(∃ f : Buf (Elt F) ((c : Thread nD τ).loc cc0_scratch1), ((c : Thread nD τ).loc cc0_scratch1) ↦{fullShare} f) : sProp 𝕄)
    ⊢ bigSep Finset.univ (fun s => iprop(∃ f, oSlot c s f)) := by
  iintro ⟨%f, H⟩
  iapply (show (((c : Thread nD τ).loc cc0_scratch1) ↦{fullShare} f : sProp 𝕄) ⊢ bigSep Finset.univ (fun s => iprop(∃ f, oSlot c s f)) from by
    rw [Ring.pointsTo_blocks (ℓ := (c : Thread nD τ).loc cc0_scratch1) oSs oS_disjoint oS_cover]
    exact bigSep_mono fun s _ => exists_intro (Φ := fun f => oSlot c s f) f) $$ H
theorem slots_x (c : Dev nD) : bigSep Finset.univ (fun s => iprop(∃ f, xSlot c s f))
    ⊢ (iprop(∃ f : Buf (Elt F) ((c : Thread nD τ).loc cc0_scratch0), ((c : Thread nD τ).loc cc0_scratch0) ↦{fullShare} f) : sProp 𝕄) :=
  Ring.pointsTo_blocks_join_exists (ℓ := (c : Thread nD τ).loc cc0_scratch0) xSs xS_disjoint xS_cover (fun _ => (FloatOps.ofBits .f32 0#32 : F .f32))
theorem slots_o (c : Dev nD) : bigSep Finset.univ (fun s => iprop(∃ f, oSlot c s f))
    ⊢ (iprop(∃ f : Buf (Elt F) ((c : Thread nD τ).loc cc0_scratch1), ((c : Thread nD τ).loc cc0_scratch1) ↦{fullShare} f) : sProp 𝕄) :=
  Ring.pointsTo_blocks_join_exists (ℓ := (c : Thread nD τ).loc cc0_scratch1) oSs oS_disjoint oS_cover (fun _ => (FloatOps.ofBits .f32 0#32 : F .f32))

end Cert.KernelIdeal.Gemm

end
-- ==== Proof.KernelIdeal.Value.lean ====
/-
  What the result holds at the end, and how it reads block by block.
-/
module

public import proofs.«01_k».proof.Proof.KernelIdeal.Blocks
public import Idealize.ShloMosaic.Lib.Pointwise.Index

@[expose] public section

set_option maxRecDepth 16384

noncomputable section

namespace Cert.KernelIdeal.Gemm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-! ## The result's words -/

/-- Row `i` of the result: from its block's product, from the tail's window, or from the last columns. -/
def out (xt : Vec F S101x100000 .f32) (w : Vec F S101x128 .f32) (xr : Vec F S101x32 .f32) : Vec F S100000x128 .f32 := fun i =>
  if h : (i 0).val < 98304 then
    mm w ((xB ⟨(i 0).val / 8192, by omega⟩).view.read (Elt F) xt) (ix2 ⟨(i 0).val % 8192, by omega⟩ (i 1))
  else if h' : (i 0).val < 99968 then k0_pay2 w (xT.view.read (Elt F) xt) (ix2 ⟨(i 0).val - 98304, by omega⟩ (i 1))
  else k0_pay3 w xr (ix2 ⟨(i 0).val - 99968, by have : (i 0).val < 100000 := (i 0).isLt; omega⟩ (i 1))

variable (xt : Vec F S101x100000 .f32) (w : Vec F S101x128 .f32) (xr : Vec F S101x32 .f32)

omit [FloatOps F] in
theorem ix2_of {n0 n1 : ℕ} (a : Fin n0) (b : Fin n1) (y : (⟨2, ![n0, n1]⟩ : Shape).Idx) (h0 : a.val = (y 0).val) (h1 : b.val = (y 1).val) : ix2 a b = y := by
  funext i; fin_cases i
  · exact Fin.ext h0
  · exact Fin.ext h1

theorem out_at_block (b : Fin 12) (i : S100000x128.Idx) (y : S8192x128.Idx) (h0 : (i 0).val = 8192 * b.val + (y 0).val) (h1 : (i 1).val = (y 1).val) :
    out xt w xr i = mm w ((xB b).view.read (Elt F) xt) y := by
  have hb := b.isLt
  have hy : (y 0).val < 8192 := (y 0).isLt
  unfold out
  rw [dif_pos (by omega)]
  have eb : (⟨(i 0).val / 8192, by omega⟩ : Fin 12) = b := Fin.ext (by show (i 0).val / 8192 = b.val; omega)
  rw [eb]
  exact congrArg _ (ix2_of _ _ y (by show (i 0).val % 8192 = _; omega) h1)

theorem out_at_tail1 (i : S100000x128.Idx) (y : S1664x128.Idx) (h0 : (i 0).val = 98304 + (y 0).val) (h1 : (i 1).val = (y 1).val) :
    out xt w xr i = k0_pay2 w (xT.view.read (Elt F) xt) y := by
  have hy : (y 0).val < 1664 := (y 0).isLt
  unfold out
  rw [dif_neg (by omega), dif_pos (by omega)]
  exact congrArg _ (ix2_of _ _ y (by show (i 0).val - 98304 = _; omega) h1)

theorem out_at_tail2 (i : S100000x128.Idx) (y : S32x128.Idx) (h0 : (i 0).val = 99968 + (y 0).val) (h1 : (i 1).val = (y 1).val) :
    out xt w xr i = k0_pay3 w xr y := by
  unfold out
  rw [dif_neg (by omega), dif_neg (by omega)]
  exact congrArg _ (ix2_of _ _ y (by show (i 0).val - 99968 = _; omega) h1)

omit [FloatOps F] in
theorem emb_val {s : Shape} (off size : Fin s.rank → ℕ) (inb) (y : (Rect.unit (s := s) off size inb).shape.Idx) (a : Fin s.rank) :
    ((Rect.unit (s := s) off size inb).emb y a).val = off a + (y a).val := by
  rw [Rect.emb_apply]; show off a + 1 * (y a).val = _; omega

theorem out_block (b : Fin 12) : (oB b).view.read (Elt F) (out xt w xr) = mm w ((xB b).view.read (Elt F) xt) := by
  funext y
  exact out_at_block xt w xr b ((Rect.unit (s := S100000x128) ![8192 * b.val, 0] S8192x128.size (inbO b)).emb y) y
    (emb_val _ _ _ _ 0) ((emb_val _ _ _ _ 1).trans (Nat.zero_add _))

omit [FloatOps F] in
theorem emb_tail1 (x : S1664x128.Idx) (a) : (RT1.emb x a).val = (x a).val :=
  (emb_val (s := S1696x128) ![0, 0] S1664x128.size inb_S1696x128_S1664x128_0_0 x a).trans (by fin_cases a <;> exact Nat.zero_add _)
omit [FloatOps F] in
theorem emb_tail2 (x : S32x128.Idx) (a) : (RT2.emb x a).val = ![1664, 0] a + (x a).val :=
  emb_val (s := S1696x128) ![1664, 0] S32x128.size inb_S1696x128_S32x128_1664_0 x a

theorem out_tail1 (x : S1664x128.Idx) : oT.view.read (Elt F) (out xt w xr) (RT1.emb x) = k0_pay2 w (xT.view.read (Elt F) xt) x :=
  out_at_tail1 xt w xr ((Rect.unit (s := S100000x128) ![98304, 0] S1696x128.size inb_S100000x128_S1696x128_98304_0).emb (RT1.emb x)) x
    ((emb_val _ _ _ _ 0).trans (congrArg (98304 + ·) (emb_tail1 x 0)))
    ((emb_val _ _ _ _ 1).trans ((Nat.zero_add _).trans (emb_tail1 x 1)))

theorem out_tail2 (x : S32x128.Idx) : oT.view.read (Elt F) (out xt w xr) (RT2.emb x) = k0_pay3 w xr x :=
  out_at_tail2 xt w xr ((Rect.unit (s := S100000x128) ![98304, 0] S1696x128.size inb_S100000x128_S1696x128_98304_0).emb (RT2.emb x)) x
    ((emb_val _ _ _ _ 0).trans ((congrArg (98304 + ·) (emb_tail2 x 0)).trans (Nat.add_assoc 98304 1664 _).symm))
    ((emb_val _ _ _ _ 1).trans ((Nat.zero_add _).trans ((emb_tail2 x 1).trans (Nat.zero_add _))))

end Cert.KernelIdeal.Gemm

end
-- ==== Proof.KernelIdeal.Run.lean ====
/-
  The run: what the body is called with at the one point, and the launch.
-/
module

public import proofs.«01_k».proof.Proof.KernelIdeal.Value
public import Idealize.ShloMosaic.Lib.Pipeline.Routed

@[expose] public section

set_option maxRecDepth 16384

noncomputable section

namespace Cert.KernelIdeal.Gemm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-- The kernel's own cells: each slot's copies in, its copies out, and the tail's two. -/
abbrev osem : Parts 2 → SemLoc sig
  | .inl (.inl s) => SemLoc.dma (cI s)
  | .inl (.inr s) => SemLoc.dma (cO s)
  | .inr 0 => SemLoc.dma cTO
  | .inr 1 => SemLoc.dma cTI
theorem ownSemFacts : Pipeline.OwnSemFacts spec0 osem := by decide

theorem ownSems_eq (c : Dev nD) : (Pipeline.ownSems0 osem c : sProp 𝕄)
    = iprop((bigSep Finset.univ (fun s => cellI c s) ∗ bigSep Finset.univ (fun s => cellO c s)) ∗ semVal ((c : Thread nD τ), SemLoc.dma cTO) 0 ∗ semVal ((c : Thread nD τ), SemLoc.dma cTI) 0) := by
  unfold Pipeline.ownSems0
  rw [sep_parts, bigSep_univ_eq_bigSepL [(0 : Fin 2), 1] (by decide) (by decide)]
  rfl

/-- The transposed input, the weights and the last columns when the body is called. -/
abbrev xtOf (c : Dev nD) : Vec F S101x100000 .f32 := V m c main_call0_v0
abbrev wvOf (c : Dev nD) : Vec F S101x128 .f32 := V m c main_arg1
abbrev xrOf (c : Dev nD) : Vec F S101x32 .f32 := V m c main_call0_v1
/-- The result at the end. -/
abbrev outOf (c : Dev nD) : Vec F S100000x128 .f32 := out (xtOf m c) (wvOf m c) (xrOf m c)

/-- The buffers the body moves its own copies through: the transposed input and the result. -/
abbrev R0 : Finset (Ref sig .tc) := {main_call0_v0, main_v0}
theorem R0_sub : R0 ⊆ Pipeline.restRefs sig spec0 := by decide

/-- Every buffer after the body: the result is computed, the rest stands. -/
def Y (c : Dev nD) : (b : Ref sig .tc) → Buf (Elt F) ((c : Thread nD τ).loc b) := Function.update (V m c) main_v0 (outOf m c)
theorem Y_v0 (c : Dev nD) : Y m c main_v0 = outOf m c := Function.update_self ..
theorem Y_x (c : Dev nD) : Y m c main_call0_v0 = V m c main_call0_v0 := Function.update_of_ne (by decide) ..

theorem routed_eq (c : Dev nD) (W : (b : Ref sig .tc) → Buf (Elt F) ((c : Thread nD τ).loc b)) :
    (Pipeline.routed R0 c W : sProp 𝕄) = iprop((((c : Thread nD τ).loc main_call0_v0) ↦{fullShare} W main_call0_v0) ∗ (((c : Thread nD τ).loc main_v0) ↦{fullShare} W main_v0)) := by
  unfold Pipeline.routed
  rw [bigSep_insert (by decide), bigSep_singleton]; rfl

/-- Before and after the point. -/
abbrev ends (c : Dev nD) (W : (b : Ref sig .tc) → Buf (Elt F) ((c : Thread nD τ).loc b)) : sProp 𝕄 := Pipeline.Ends spec0 osem R0 c W

def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
  Φ t := ends c (if t.val = 0 then V m c else Y m c)
  q _ := fullShare
  owed _ := 0

theorem before_0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]

theorem iblk_0 (c : Dev nD) (t : Fin cfg0.N) : iblk m c 0 t = xrOf m c := by
  funext j
  show V m c main_call0_v1 _ = V m c main_call0_v1 j
  congr 1
  funext a
  refine Fin.ext ?_
  show 0 * _ + 1 * (j a).val = (j a).val
  omega
theorem iblk_1 (c : Dev nD) (t : Fin cfg0.N) : iblk m c 1 t = wvOf m c := by
  funext j
  show V m c main_arg1 _ = V m c main_arg1 j
  congr 1
  funext a
  refine Fin.ext ?_
  show 0 * _ + 1 * (j a).val = (j a).val
  omega

theorem defs₀_row (t : Fin cfg0.N) : defs₀ (F := F) .tc cfg0.body (cfg0.bodyArgs t (cfg0.slots t)) = bodyAt0 t := by
  unfold defs₀; rw [Defs.onTc_tc]

/-! ## The body's resources from the launch's, and back -/

theorem rest_eq (c : Dev nD) (xt : Buf (Elt F) (xM.view.loc (c : Thread nD τ))) (f : Buf (Elt F) (oM.view.loc (c : Thread nD τ))) :
    (bigSep Finset.univ (rest c xt f) : sProp 𝕄)
      = iprop(bigSep Finset.univ (fun s => cellI c s) ∗ bigSep Finset.univ (fun s => cellO c s) ∗ bigSep Finset.univ (fun s => iprop(∃ f, xSlot c s f))
        ∗ bigSep Finset.univ (fun s => iprop(∃ f, oSlot c s f)) ∗ bigSep Finset.univ (fun s => oHome c f (b0 s)) ∗ bigSep Finset.univ (fun s => oHome c f (b1 s))
        ∗ bigSep Finset.univ (fun s => xHome c xt (b0 s)) ∗ bigSep Finset.univ (fun s => xHome c xt (b1 s))) := by
  unfold rest
  simp only [bigSep_sep']

/-- What the body does not touch. -/
def left (c : Dev nD) (xt : Buf (Elt F) (xM.view.loc (c : Thread nD τ))) : sProp 𝕄 :=
  iprop((xR.view.loc (c : Thread nD τ) ↦[xR.view.set]{fullShare} xt) ∗ ∃ r, prngReg c r)

theorem ends_in (c : Dev nD) (W : (b : Ref sig .tc) → Buf (Elt F) ((c : Thread nD τ).loc b)) (xt : Buf (Elt F) (xM.view.loc (c : Thread nD τ)))
    (f : Buf (Elt F) (oM.view.loc (c : Thread nD τ))) (hx : W main_call0_v0 = xt) (hf : W main_v0 = f) :
    ends c W ⊢ (iprop((bigSep Finset.univ (rest c xt f) ∗ restT c xt f) ∗ left c xt) : sProp 𝕄) := by
  subst hx hf
  unfold ends Pipeline.Ends
  rw [routed_eq, ownSems_eq, scopedRest0_eq, x_parts, o_parts, rest_eq]
  unfold restT left
  iintro ⟨⟨⟨⟨Hx0, Hx1⟩, HxT, HxR⟩, ⟨Ho0, Ho1⟩, HoT⟩, ⟨⟨HI, HO⟩, HcO, HcI⟩, ⟨H0, H1, H2, H3⟩, Hp⟩
  isplitr [HxR Hp]
  · isplitl [HI HO H0 H1 Ho0 Ho1 Hx0 Hx1]
    · isplitl [HI]; · iexact HI
      isplitl [HO]; · iexact HO
      isplitl [H0]; · iapply (x_slots c) $$ H0
      isplitl [H1]; · iapply (o_slots c) $$ H1
      isplitl [Ho0]; · iexact Ho0
      isplitl [Ho1]; · iexact Ho1
      isplitl [Hx0]; · iexact Hx0
      iexact Hx1
    isplitl [HxT]; · iexact HxT
    isplitl [HoT]; · iexact HoT
    isplitl [H2]; · iexact H2
    isplitl [H3]; · iexact H3
    isplitl [HcO]; · iexact HcO
    iexact HcI
  isplitl [HxR]; · iexact HxR
  iexact Hp

theorem ends_out (c : Dev nD) (W : (b : Ref sig .tc) → Buf (Elt F) ((c : Thread nD τ).loc b)) (xt : Buf (Elt F) (xM.view.loc (c : Thread nD τ)))
    (f : Buf (Elt F) (oM.view.loc (c : Thread nD τ))) (hx : W main_call0_v0 = xt) (hf : W main_v0 = f) :
    (iprop((bigSep Finset.univ (rest c xt f) ∗ restT c xt f) ∗ left c xt) : sProp 𝕄) ⊢ ends c W := by
  subst hx hf
  unfold ends Pipeline.Ends
  rw [routed_eq, ownSems_eq, scopedRest0_eq, x_parts, o_parts, rest_eq]
  unfold restT left
  iintro ⟨⟨⟨HI, HO, H0, H1, Ho0, Ho1, Hx0, Hx1⟩, HxT, HoT, H2, H3, HcO, HcI⟩, HxR, Hp⟩
  isplitl [Hx0 Hx1 HxT HxR Ho0 Ho1 HoT]
  · isplitl [Hx0 Hx1 HxT HxR]
    · isplitl [Hx0 Hx1]
      · isplitl [Hx0]; · iexact Hx0
        iexact Hx1
      isplitl [HxT]; · iexact HxT
      iexact HxR
    isplitl [Ho0 Ho1]
    · isplitl [Ho0]; · iexact Ho0
      iexact Ho1
    iexact HoT
  isplitl [HI HO HcO HcI]
  · isplitl [HI HO]
    · isplitl [HI]; · iexact HI
      iexact HO
    isplitl [HcO]; · iexact HcO
    iexact HcI
  isplitr [Hp]
  · isplitl [H0]; · iapply (slots_x c) $$ H0
    isplitl [H1]; · iapply (slots_o c) $$ H1
    isplitl [H2]; · iexact H2
    iexact H3
  iexact Hp

theorem rOf_eq (c : Dev nD) (arg1 : Memref sig .tc .vmem S101x32 .f32) (gx : Buf (Elt F) (arg1.view.loc (c : Thread nD τ))) {v : Vec F S101x32 .f32}
    (h : arg1.view.read (Elt F) gx = v) : rOf c arg1 gx = v := by
  subst h; funext y
  exact congrArg (arg1.view.read (Elt F) gx) (funext fun a => Fin.ext (by
    rw [show ((Rect.unit (s := S101x32) ![0, 0] S101x32.size inb_S101x32_S101x32_0_0).toLoadRect.idx y a).val = ![0, 0] a + (y a).val from emb_val (s := S101x32) ![0, 0] S101x32.size inb_S101x32_S101x32_0_0 y a]
    fin_cases a <;> exact Nat.zero_add _))
theorem wOf_eq (c : Dev nD) (arg2 : Memref sig .tc .vmem S101x128 .f32) (gw : Buf (Elt F) (arg2.view.loc (c : Thread nD τ))) {v : Vec F S101x128 .f32}
    (h : arg2.view.read (Elt F) gw = v) : wOf c arg2 gw = v := by
  subst h; funext y
  exact congrArg (arg2.view.read (Elt F) gw) (funext fun a => Fin.ext (by
    rw [show ((Rect.unit (s := S101x128) ![0, 0] S101x128.size inb_S101x128_S101x128_0_0).toLoadRect.idx y a).val = ![0, 0] a + (y a).val from emb_val (s := S101x128) ![0, 0] S101x128.size inb_S101x128_S101x128_0_0 y a]
    fin_cases a <;> exact Nat.zero_add _))

/-! ## The body obligation -/

theorem Φ_first (c : Dev nD) : (dats m 0 c).Φ t0_0.castSucc = ends c (V m c) := rfl
theorem Φ_last (c : Dev nD) : (dats m 0 c).Φ t0_0.succ = ends c (Y m c) := rfl

set_option backward.isDefEq.respectTransparency.types false in
theorem body_obligation (c : Dev nD) : BodyObligation (dats (F := F) m 0 c) (defs₀ (F := F)) Variants.none () Set.univ := fun t => by
  obtain rfl := fin_N0 t
  rw [bigSep_W0, bigSep_W0, defs₀_row]
  dsimp only
  simp only [before_0, before_1, after_0, after_1, iblk_0, iblk_1]
  rw [Φ_first, Φ_last]
  unfold Dat.owesAt Pipeline.owesWithin
  rw [show (dats m 0 c).owed t0_0.castSucc = 0 from rfl, show (dats m 0 c).owed t0_0.succ = 0 from rfl]
  unfold owns
  iintro ⟨He, ⟨%W, -, HW⟩, ⟨%d0, %g0, %hg0, Hx⟩, ⟨%d1, %g1, %hg1, Hw⟩⟩
  have hw := wOf_eq c (st0_1 t0_0) g1 hg1
  have hr := rOf_eq c (st0_0 t0_0) g0 hg0
  ihave Hb := (ends_in c (V m c) (xtOf m c) (V m c main_v0) rfl rfl) $$ He
  icases Hb with ⟨⟨Hs, HT⟩, Hl⟩
  iapply (bodyRun c (xtOf m c) (outOf m c) (st0_0 t0_0) (hstage0_0 0) (st0_1 t0_0) (hstage0_1 0) (V m c main_v0) g0 g1
    (fun b => by rw [hw]; exact out_block _ _ _ b) (fun x => by rw [hw]; exact out_tail1 _ _ _ x) (fun x => by rw [hw, hr]; exact out_tail2 _ _ _ x) W)
  unfold held
  isplitr [Hl]
  · isplitr [HW]
    · isplitl [Hx]; · iexact Hx
      isplitl [Hw]; · iexact Hw
      isplitl [Hs]; · iexact Hs
      iexact HT
    iexact HW
  iintro ⟨⟨Hx, Hw, Hs, HT⟩, ⟨%W', HW⟩⟩
  isplitl [Hs HT Hl]
  · iapply (ends_out c (Y m c) (xtOf m c) (outOf m c) (Y_x m c) (Y_v0 m c))
    isplitr [Hl]
    · isplitl [Hs]; · iexact Hs
      iexact HT
    iexact Hl
  isplitl [HW]
  · iexists W'; isplitr; · ipureintro; exact fun _ _ => Or.inl trivial
    iexact HW
  isplitl [Hx]
  · iexists _; isplitr; swap; · iexact Hx
    ipureintro; exact hg0
  iexists _; isplitr; swap; · iexact Hw
  ipureintro; exact hg1

/-! ## The run -/

set_option maxHeartbeats 800000 in
theorem hmain' : Pipeline.HMain (Ix := Unit) (Name := ℕ) (U := Pipeline.UC sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- From any memory with every counter at zero: the run ends, the result is computed, the arguments stand, every counter is at zero again. -/
theorem run_main : θ_run defs (onTc (τ := τ) (main (F := F))) ⟨m, fun _ => 0, ρ⟩ (fun r => (∀ c : Dev nD,
      r.2.mem ((c.tc : Thread nD τ).loc main_v0) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_frame_routed (Q' := _) cfgs (dats m) (0 : Fin 1) launch0 ownSemFacts defs₀ Variants.none m ρ main
    (hbody := fun c => (body_obligation m c).loose) (hshare := fun c => (dats m 0 c).share_full fun _ => rfl)
    (howed := fun _ _ => rfl) (V := V m) (hmain := hmain' m) (hA := fun _ _ => rfl) (R := R0) (hR := R0_sub) (Y := Y m)
    (hin := fun _ => .rfl) (hout := fun _ => .rfl)
    (hQ' := fun r h => ⟨fun c => ⟨((h.1 c).2.1 main_v0 (by decide)).trans (Y_v0 m c),
      ((h.1 c).2.2 main_arg0 (by decide)).trans (V_main_arg0 m c),
      ((h.1 c).1 1).trans (((dats m 0 c).arrAt_in 1 rfl _).trans (V_main_arg1 m c))⟩, h.2⟩)

end Cert.KernelIdeal.Gemm

end
-- ==== Proof.KernelIdeal.Product.lean ====
/-
  Over the extended reals the result is the product: every row, from whichever piece it comes, is the row of the
  one-hot table times the weights.
-/
module

public import proofs.«01_k».proof.Proof.KernelIdeal.Run
public import proofs.«01_k».proof.Proof.Gen.ReferenceIdeal
public import Idealize.ShloMosaic.Lib.Pointwise

@[expose] public section

set_option maxRecDepth 16384

noncomputable section

namespace Cert.KernelIdeal.Gemm

open Cert.KernelIdeal Cert.KernelIdeal.Gen
open Idealize.ShloMosaic Idealize.ShloMosaic.TcCoe

/-- The reference's product. -/
abbrev prod (x : FVec Ideal S100000x101 .f32) (w : FVec Ideal S101x128 .f32) : FVec Ideal S100000x128 .f32 :=
  Host.dotGeneral Cert.ReferenceIdeal.dot_S100000x101_S101x128_S100000x128_1_0_0_1_n_n none x w

/-- The product at a row and a column. -/
theorem prod_at (x : FVec Ideal S100000x101 .f32) (w : FVec Ideal S101x128 .f32) (i : S100000x128.Idx) :
    prod x w i = ∑ k : Fin 101, x (ix2 (i 0) k) * w (ix2 k (i 1)) := by
  idx_vars i
  pointwise [prod]

/-- A block's product at a row and a column. -/
theorem mm_at (w : FVec Ideal S101x128 .f32) (a : FVec Ideal S101x8192 .f32) (y : S8192x128.Idx) :
    mm w a y = ∑ k : Fin 101, a (ix2 k (y 0)) * w (ix2 k (y 1)) := by
  idx_vars y
  pointwise [mm]

/-- The product of the tail's copied window at a row and a column. -/
theorem pay2_at (w : FVec Ideal S101x128 .f32) (a : FVec Ideal S101x1664 .f32) (y : S1664x128.Idx) :
    k0_pay2 w a y = ∑ k : Fin 101, a (ix2 k (y 0)) * w (ix2 k (y 1)) := by
  idx_vars y
  pointwise [k0_pay2]

/-- The product of the last columns at a row and a column. -/
theorem pay3_at (w : FVec Ideal S101x128 .f32) (a : FVec Ideal S101x32 .f32) (y : S32x128.Idx) :
    k0_pay3 w a y = ∑ k : Fin 101, a (ix2 k (y 0)) * w (ix2 k (y 1)) := by
  idx_vars y
  pointwise [k0_pay3]

/-- The table transposed, at an entry. -/
theorem transposed_at (x : FVec Ideal S100000x101 .f32) (j : S101x100000.Idx) :
    transpose S101x100000 [1, 0] x transposes_S100000x101_S101x100000_1_0 j = x (ix2 (j 1) (j 0)) := by
  idx_vars j
  pointwise

/-- The last columns of the transposed table, at an entry. -/
theorem lastcols_at (x : FVec Ideal S101x100000 .f32) (j : S101x32.Idx) (i : S101x100000.Idx) (h0 : (i 0).val = (j 0).val) (h1 : (i 1).val = 99968 + (j 1).val) :
    extractStridedSlice S101x32 ![0, 99968] x slices_S101x100000_S101x32_0_99968 j = x i := by
  refine congrArg x (funext fun a => Fin.ext ?_)
  fin_cases a
  · exact (Nat.zero_add _).trans h0.symm
  · exact h1.symm

/-- Every row of the result is the table's row times the weights. -/
theorem out_eq (x : FVec Ideal S100000x101 .f32) (w : FVec Ideal S101x128 .f32) (xt : FVec Ideal S101x100000 .f32) (xr : FVec Ideal S101x32 .f32)
    (hxt : xt = transpose S101x100000 [1, 0] x transposes_S100000x101_S101x100000_1_0)
    (hxr : xr = extractStridedSlice S101x32 ![0, 99968] xt slices_S101x100000_S101x32_0_99968) :
    out (F := Ideal) xt w xr = prod x w := by
  funext i
  have hi0 : (i 0).val < 100000 := (i 0).isLt
  rw [prod_at]
  have key : ∀ (k : Fin 101) (j : S101x100000.Idx), (j 0).val = k.val → (j 1).val = (i 0).val → xt j = x (ix2 (i 0) k) := by
    intro k j h0 h1
    rw [hxt, transposed_at]
    exact congrArg x (ix2_of _ _ _ h1 h0)
  by_cases h : (i 0).val < 98304
  · refine (out_at_block (F := Ideal) xt w xr ⟨(i 0).val / 8192, by omega⟩ i (ix2 ⟨(i 0).val % 8192, by omega⟩ (i 1)) (by show _ = 8192 * ((i 0).val / 8192) + (i 0).val % 8192; omega) rfl).trans ((mm_at _ _ _).trans ?_)
    refine Finset.sum_congr rfl fun k _ => congrArg₂ (· * ·) (key k _ ?_ ?_) rfl
    · exact (emb_val _ _ _ _ 0).trans (Nat.zero_add _)
    · exact (emb_val _ _ _ _ 1).trans (by show 8192 * ((i 0).val / 8192) + (i 0).val % 8192 = _; omega)
  · by_cases h' : (i 0).val < 99968
    · refine (out_at_tail1 (F := Ideal) xt w xr i (ix2 ⟨(i 0).val - 98304, by omega⟩ (i 1)) (by show _ = 98304 + ((i 0).val - 98304); omega) rfl).trans ((pay2_at _ _ _).trans ?_)
      refine Finset.sum_congr rfl fun k _ => congrArg₂ (· * ·) (key k _ ?_ ?_) rfl
      · exact (emb_val _ _ _ _ 0).trans (Nat.zero_add _)
      · exact (emb_val _ _ _ _ 1).trans (by show 98304 + ((i 0).val - 98304) = _; omega)
    · refine (out_at_tail2 (F := Ideal) xt w xr i (ix2 ⟨(i 0).val - 99968, by omega⟩ (i 1)) (by show _ = 99968 + ((i 0).val - 99968); omega) rfl).trans ((pay3_at _ _ _).trans ?_)
      refine Finset.sum_congr rfl fun k _ => congrArg₂ (· * ·) ?_ rfl
      subst hxr
      exact (lastcols_at xt _ (ix2 k (i 0)) rfl (by show (i 0).val = 99968 + ((i 0).val - 99968); omega)).trans (key k _ rfl rfl)

variable (m : (ℓ : Loc nD τ sig) → Buf (Elt Ideal) ℓ)

/-- The body finds the table transposed. -/
theorem xtOf_eq (c : Dev nD) : xtOf m c = transpose S101x100000 [1, 0] (m ((c.tc : Thread nD τ).loc main_arg0) : FVec Ideal S100000x101 .f32) transposes_S100000x101_S101x100000_1_0 := by
  show StableHlo.after hostOps0 _ _ = _
  after_results
  rfl

/-- The body finds the last 32 columns of the transposed table. -/
theorem xrOf_eq (c : Dev nD) : xrOf m c = extractStridedSlice S101x32 ![0, 99968] (xtOf m c) slices_S101x100000_S101x32_0_99968 := by
  rw [xtOf_eq]
  show StableHlo.after hostOps0 _ _ = _
  after_results
  rfl

/-- The kernel's result is the product of its two arguments. -/
theorem outOf_eq (c : Dev nD) : outOf m c = prod (m ((c.tc : Thread nD τ).loc main_arg0)) (m ((c.tc : Thread nD τ).loc main_arg1)) := by
  unfold outOf
  rw [show wvOf m c = m ((c.tc : Thread nD τ).loc main_arg1) from V_main_arg1 m c]
  exact out_eq _ _ _ _ (xtOf_eq m c) (xrOf_eq m c)

end Cert.KernelIdeal.Gemm

end
-- ==== Proof.lean ====
/-
  The proof of `Cert.Claim`: both programs run and end quiescent with the computed result, and over the extended
  reals the kernel's result is the reference's product.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Product

@[expose] public section

noncomputable section

namespace Cert.Proof

open Idealize.ShloMosaic Idealize.SL.Sem

/-- The kernel at bit patterns ends with its arguments unchanged and every counter at zero. -/
theorem quiescent_kernel : Cert.quiescent_Kernel := fun m g _ =>
  (θ_run Cert.Kernel.defs _ _).mono (fun _ h => ⟨fun c => (h.1 c).2, h.2⟩) (Cert.Kernel.Gemm.run_main (F := Bits) m g)

/-- The kernel over the extended reals likewise. -/
theorem quiescent_ideal : Cert.quiescent_KernelIdeal := fun m g _ =>
  (θ_run Cert.KernelIdeal.defs _ _).mono (fun _ h => ⟨fun c => (h.1 c).2, h.2⟩) (Cert.KernelIdeal.Gemm.run_main (F := Ideal) m g)

/-- The reference likewise: it has no semaphore. -/
theorem quiescent_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Both end with the product of the table and the weights. -/
theorem algebraic : Cert.algebraic_KernelIdeal_ReferenceIdeal := fun m g m' g' _ hm =>
  ⟨fun c => Cert.KernelIdeal.Gemm.outOf m c,
    (θ_run Cert.KernelIdeal.defs _ _).mono (fun _ h => h.1) (Cert.KernelIdeal.Gemm.run_main (F := Ideal) m g),
    (θ_run Cert.ReferenceIdeal.defs _ _).mono (fun r h c => ⟨by
        rw [(h c).1, (hm c).1, (hm c).2]; exact (Cert.KernelIdeal.Gemm.outOf_eq m c).symm, (h c).2⟩)
      (Cert.ReferenceIdeal.Value.run (F := Ideal) m' g')⟩

/-- All five claims. -/
theorem claim : Cert.Claim := ⟨Cert.Kernel.Gen.facts, Cert.KernelIdeal.Gen.facts, Cert.ReferenceIdeal.Gen.facts,
  quiescent_kernel, quiescent_ideal, quiescent_reference, trivial, algebraic⟩

end Cert.Proof

end
